-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_others_finite [hPre_others_finite : Cert.Pre_others_finite.Facts] (m : (ℓ : Loc Cert.KernelIdeal.nD Cert.KernelIdeal.τ Cert.KernelIdeal.sig) → Buf (Elt Ideal) ℓ) : Prop :=
  ∀ c : Dev Cert.KernelIdeal.nD,
    (Cert.Pre_others_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_others_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_others_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_others_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_others_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_others_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_others_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_others_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_others_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_others_finite [hPre_others_finite : Cert.Pre_others_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_others_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_others_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_others_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_others_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_others_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_others_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_others_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_others_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_others_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_others_finite [hKernelIdeal : Cert.KernelIdeal.Facts] [hPre_others_finite : Cert.Pre_others_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_others_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_others_finite [hReferenceIdeal : Cert.ReferenceIdeal.Facts] [hPre_others_finite : Cert.Pre_others_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_others_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_others_finite [hKernelIdeal : Cert.KernelIdeal.Facts] [hReferenceIdeal : Cert.ReferenceIdeal.Facts] [hPre_others_finite : Cert.Pre_others_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_others_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_others_finite : Cert.Pre_others_finite.Facts),
    quiescent_Kernel (hKernel := hKernel)
    ∧ quiescent_KernelIdeal (hKernelIdeal := hKernelIdeal)
    ∧ quiescent_KernelIdeal_pre_others_finite (hKernelIdeal := hKernelIdeal) (hPre_others_finite := hPre_others_finite)
    ∧ quiescent_ReferenceIdeal (hReferenceIdeal := hReferenceIdeal)
    ∧ quiescent_ReferenceIdeal_pre_others_finite (hReferenceIdeal := hReferenceIdeal) (hPre_others_finite := hPre_others_finite)
    ∧ preserves_Kernel_KernelIdeal
    ∧ algebraic_KernelIdeal_ReferenceIdeal_pre_others_finite (hKernelIdeal := hKernelIdeal) (hReferenceIdeal := hReferenceIdeal) (hPre_others_finite := hPre_others_finite)
-- ==== Pre_others_finite.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  bcast_S_S10000x10000 : S_.BroadcastsInDim S10000x10000 (![] : Fin 0 → Fin S10000x10000.rank)
  bcast_S_S128x128 : S_.BroadcastsInDim S128x128 (![] : Fin 0 → Fin S128x128.rank)
  bcast_S_S128 : S_.BroadcastsInDim S128 (![] : Fin 0 → Fin S128.rank)

variable [Facts]

def fn_part1 {F : FTy → Type} [FloatOps F] (main_arg6 : FVec F S128x128 .f32) (main_arg7 : FVec F S128 .f32) (main_arg8 : FVec F S128 .f32) (main_v2 : IVec S10000x128 1) (main_v5 : IVec S10000x10000 1) (main_v8 : IVec S128x128 1) (main_v11 : IVec S128 1) (main_v14 : IVec S128 1) (main_v17 : IVec S128 1) : IVec S10000x128 1 × IVec S10000x10000 1 × IVec S128x128 1 × IVec S128 1 × IVec S128 1 × IVec S128 1 × IVec S128x128 1 × IVec S128 1 × IVec S128 1 :=
  let main_v18 : FVec F S128x128 .f32 := Host.absf main_arg6
  let main_cst_5 : FVec F S_ .f32 := constant S_ .f32 0x7F800000#32
  let main_v19 : FVec F S128x128 .f32 := broadcastInDim S128x128 ![] bcast_S_S128x128 main_cst_5
  let main_v20 : IVec S128x128 1 := cmpf .olt main_v18 main_v19
  let main_v21 : FVec F S128 .f32 := Host.absf main_arg7
  let main_cst_6 : FVec F S_ .f32 := constant S_ .f32 0x7F800000#32
  let main_v22 : FVec F S128 .f32 := broadcastInDim S128 ![] bcast_S_S128 main_cst_6
  let main_v23 : IVec S128 1 := cmpf .olt main_v21 main_v22
  let main_v24 : FVec F S128 .f32 := Host.absf main_arg8
  let main_cst_7 : FVec F S_ .f32 := constant S_ .f32 0x7F800000#32
  let main_v25 : FVec F S128 .f32 := broadcastInDim S128 ![] bcast_S_S128 main_cst_7
  let main_v26 : IVec S128 1 := cmpf .olt main_v24 main_v25
  (main_v2, main_v5, main_v8, main_v11, main_v14, main_v17, main_v20, main_v23, main_v26)

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) : IVec S10000x128 1 × IVec S10000x10000 1 × IVec S128x128 1 × IVec S128 1 × IVec S128 1 × IVec S128 1 × IVec S128x128 1 × IVec S128 1 × IVec S128 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S10000x10000 .f32 := Host.absf main_arg1
  let main_cst_0 : FVec F S_ .f32 := constant S_ .f32 0x7F800000#32
  let main_v4 : FVec F S10000x10000 .f32 := broadcastInDim S10000x10000 ![] bcast_S_S10000x10000 main_cst_0
  let main_v5 : IVec S10000x10000 1 := cmpf .olt main_v3 main_v4
  let main_v6 : FVec F S128x128 .f32 := Host.absf main_arg2
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S128 .f32 := Host.absf main_arg4
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S128 .f32 := Host.absf main_arg5
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  fn_part1 (F := F) main_arg6 main_arg7 main_arg8 main_v2 main_v5 main_v8 main_v11 main_v14 main_v17
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S_ : Shape := ⟨0, ![]⟩
abbrev S1000x10000 : Shape := ⟨2, ![1000, 10000]⟩
abbrev S1000x128 : Shape := ⟨2, ![1000, 128]⟩

abbrev nBuf : Space → Nat
  | .hbm => 42
  | .vmem => 27
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S10000x128, .bf16⟩
  | .hbm, ⟨11, _⟩ => ⟨S10000x10000, .i8⟩
  | .hbm, ⟨12, _⟩ => ⟨S1x128, .f32⟩
  | .hbm, ⟨13, _⟩ => ⟨S1x128, .f32⟩
  | .hbm, ⟨14, _⟩ => ⟨S_, .f32⟩
  | .hbm, ⟨15, _⟩ => ⟨S1x128, .f32⟩
  | .hbm, ⟨16, _⟩ => ⟨S1x128, .f32⟩
  | .hbm, ⟨17, _⟩ => ⟨S_, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S400x128, .bf16⟩
  | .local _ .vmem, ⟨5, _⟩ => ⟨S400x128, .bf16⟩
  | .local _ .vmem, ⟨6, _⟩ => ⟨S400x10000, .i8⟩
  | .local _ .vmem, ⟨7, _⟩ => ⟨S400x10000, .i8⟩
  | .local _ .vmem, ⟨8, _⟩ => ⟨S1x128, .f32⟩
  | .local _ .vmem, ⟨9, _⟩ => ⟨S1x128, .f32⟩
  | .local _ .vmem, ⟨10, _⟩ => ⟨S10000x128, .bf16⟩
  | .local _ .vmem, ⟨11, _⟩ => ⟨S10000x128, .bf16⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1000x10000, .i8⟩
  | .local _ .vmem, ⟨18, _⟩ => ⟨S1000x10000, .i8⟩
  | .local _ .vmem, ⟨19, _⟩ => ⟨S1000x128, .f32⟩
  | .local _ .vmem, ⟨20, _⟩ => ⟨S1000x128, .f32⟩
  | .local _ .vmem, ⟨21, _⟩ => ⟨S10000x128, .bf16⟩
  | .local _ .vmem, ⟨22, _⟩ => ⟨S10000x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc1_scratch3 : Ref sig .tc := ⟨.vmem, 24, rfl⟩
abbrev cc1_scratch4 : Ref sig .tc := ⟨.vmem, 25, rfl⟩
abbrev cc1_scratch5 : Ref sig .tc := ⟨.vmem, 26, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x10000 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def k1_cond2 (i : grid1.Coords) : BitVec 1 :=
  let arg0 : BitVec 32 := BitVec.ofNat 32 (i 0).val
  let c10_i32 : BitVec 32 := 10#32
  let v3 : BitVec 1 := Scalar.cmpi .slt arg0 c10_i32
  let v4 : BitVec 32 := Scalar.extui v3
  let c0_i32_1 : BitVec 32 := 0#32
  let v5 : BitVec 1 := Scalar.cmpi .ne v4 c0_i32_1
  v5

def k1_off1 (i : grid1.Coords) : Fin 2 → Nat :=
  let arg0 : BitVec 32 := BitVec.ofNat 32 (i 0).val
  let c1000_i32 : BitVec 32 := 1000#32
  let v17 : BitVec 32 := Scalar.muli arg0 c1000_i32
  let v18 : Index := Scalar.indexCast v17
  let c0_9 : Index := 0#32
  ![v18.toNat, 0]
def k1_cond4 (i : grid1.Coords) : BitVec 1 :=
  let arg0 : BitVec 32 := BitVec.ofNat 32 (i 0).val
  let c10_i32_4 : BitVec 32 := 10#32
  let v9 : BitVec 1 := Scalar.cmpi .sge arg0 c10_i32_4
  let v10 : BitVec 32 := Scalar.extui v9
  let c0_i32_5 : BitVec 32 := 0#32
  let v11 : BitVec 1 := Scalar.cmpi .ne v10 c0_i32_5
  v11

def k1_off2 (i : grid1.Coords) : Fin 2 → Nat :=
  let arg0 : BitVec 32 := BitVec.ofNat 32 (i 0).val
  let c10_i32_6 : BitVec 32 := 10#32
  let v12 : BitVec 32 := Scalar.subi arg0 c10_i32_6
  let c1000_i32 : BitVec 32 := 1000#32
  let v13 : BitVec 32 := Scalar.muli v12 c1000_i32
  let v14 : Index := Scalar.indexCast v13
  let c0 : Index := 0#32
  ![v14.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage1_0 : Fin 1 → Memref sig .tc .vmem S10000x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x10000 .i8 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 127
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S_, .f32⟩
  | .hbm, ⟨25, _⟩ => ⟨S1x128, .f32⟩
  | .hbm, ⟨26, _⟩ => ⟨S1x128, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S10000x128, .f32⟩
  | .hbm, ⟨45, _⟩ => ⟨S10000x128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S10000x128, .f32⟩
  | .hbm, ⟨52, _⟩ => ⟨S10000x128, .f32⟩
  | .hbm, ⟨53, _⟩ => ⟨S1x128, .f32⟩
  | .hbm, ⟨54, _⟩ => ⟨S10000x128, .f32⟩
  | .hbm, ⟨55, _⟩ => ⟨S10000x128, .f32⟩
  | .hbm, ⟨56, _⟩ => ⟨S1x128, .f32⟩
  | .hbm, ⟨57, _⟩ => ⟨S10000x128, .f32⟩
  | .hbm, ⟨58, _⟩ => ⟨S10000x128, .f32⟩
  | .hbm, ⟨59, _⟩ => ⟨S_, .f32⟩
  | .hbm, ⟨60, _⟩ => ⟨S10000x10000, .f32⟩
  | .hbm, ⟨61, _⟩ => ⟨S10000x10000, .f32⟩
  | .hbm, ⟨62, _⟩ => ⟨S_, .f32⟩
  | .hbm, ⟨63, _⟩ => ⟨S10000x10000, .f32⟩
  | .hbm, ⟨64, _⟩ => ⟨S10000x10000, .f32⟩
  | .hbm, ⟨65, _⟩ => ⟨S10000x10000, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S10000x10000, .f32⟩
  | .hbm, ⟨70, _⟩ => ⟨S10000x10000, .f32⟩
  | .hbm, ⟨71, _⟩ => ⟨S_, .f32⟩
  | .hbm, ⟨72, _⟩ => ⟨S10000x10000, .f32⟩
  | .hbm, ⟨73, _⟩ => ⟨S10000x10000, .f32⟩
  | .hbm, ⟨74, _⟩ => ⟨S_, .f32⟩
  | .hbm, ⟨75, _⟩ => ⟨S10000x10000, .f32⟩
  | .hbm, ⟨76, _⟩ => ⟨S10000x10000, .f32⟩
  | .hbm, ⟨77, _⟩ => ⟨S10000x128, .f32⟩
  | .hbm, ⟨78, _⟩ => ⟨S10000x128, .f32⟩
  | .hbm, ⟨79, _⟩ => ⟨S1x128, .f32⟩
  | .hbm, ⟨80, _⟩ => ⟨S10000x128, .f32⟩
  | .hbm, ⟨81, _⟩ => ⟨S10000x128, .f32⟩
  | .hbm, ⟨82, _⟩ => ⟨S_, .f32⟩
  | .hbm, ⟨83, _⟩ => ⟨S128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S_, .i32⟩
  | .hbm, ⟨88, _⟩ => ⟨S_, .f32⟩
  | .hbm, ⟨89, _⟩ => ⟨S128, .f32⟩
  | .hbm, ⟨90, _⟩ => ⟨S1x128, .f32⟩
  | .hbm, ⟨91, _⟩ => ⟨S_, .f32⟩
  | .hbm, ⟨92, _⟩ => ⟨S1x128, .f32⟩
  | .hbm, ⟨93, _⟩ => ⟨S1x128, .f32⟩
  | .hbm, ⟨94, _⟩ => ⟨S10000x128, .f32⟩
  | .hbm, ⟨95, _⟩ => ⟨S10000x128, .f32⟩
  | .hbm, ⟨96, _⟩ => ⟨S10000x128, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S_, .f32⟩
  | .hbm, ⟨105, _⟩ => ⟨S_, .i1⟩
  | .hbm, ⟨106, _⟩ => ⟨S_, .f32⟩
  | .hbm, ⟨107, _⟩ => ⟨S_, .f32⟩
  | .hbm, ⟨108, _⟩ => ⟨S128, .f32⟩
  | .hbm, ⟨109, _⟩ => ⟨S128, .f32⟩
  | .hbm, ⟨110, _⟩ => ⟨S1x128, .f32⟩
  | .hbm, ⟨111, _⟩ => ⟨S10000x128, .f32⟩
  | .hbm, ⟨112, _⟩ => ⟨S10000x128, .f32⟩
  | .hbm, ⟨113, _⟩ => ⟨S_, .f32⟩
  | .hbm, ⟨114, _⟩ => ⟨S128, .f32⟩
  | .hbm, ⟨115, _⟩ => ⟨S128, .f32⟩
  | .hbm, ⟨116, _⟩ => ⟨S128, .f32⟩
  | .hbm, ⟨117, _⟩ => ⟨S1x128, .f32⟩
  | .hbm, ⟨118, _⟩ => ⟨S10000x128, .f32⟩
  | .hbm, ⟨119, _⟩ => ⟨S10000x128, .f32⟩
  | .hbm, ⟨120, _⟩ => ⟨S1x128, .f32⟩
  | .hbm, ⟨121, _⟩ => ⟨S10000x128, .f32⟩
  | .hbm, ⟨122, _⟩ => ⟨S10000x128, .f32⟩
  | .hbm, ⟨123, _⟩ => ⟨S1x128, .f32⟩
  | .hbm, ⟨124, _⟩ => ⟨S10000x128, .f32⟩
  | .hbm, ⟨125, _⟩ => ⟨S10000x128, .f32⟩
  | .hbm, ⟨126, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_cst_3 : Ref sig .tc := ⟨.hbm, 37, rfl⟩
abbrev main_call0_v12 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_1 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_2 : Ref sig .tc := ⟨.hbm, 59, rfl⟩
abbrev main_v24 : Ref sig .tc := ⟨.hbm, 60, rfl⟩
abbrev main_v25 : Ref sig .tc := ⟨.hbm, 61, rfl⟩
abbrev main_cst_3 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_4 : Ref sig .tc := ⟨.hbm, 66, rfl⟩
abbrev main_cst_5 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v29 : Ref sig .tc := ⟨.hbm, 73, rfl⟩
abbrev main_cst_6 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_7 : Ref sig .tc := ⟨.hbm, 82, rfl⟩
abbrev main_v37 : Ref sig .tc := ⟨.hbm, 83, rfl⟩
abbrev main_cst_8 : Ref sig .tc := ⟨.hbm, 84, rfl⟩
abbrev main_v38 : Ref sig .tc := ⟨.hbm, 85, rfl⟩
abbrev main_v39 : Ref sig .tc := ⟨.hbm, 86, rfl⟩
abbrev main_c_9 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_cst_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_v7 : Ref sig .tc := ⟨.hbm, 97, rfl⟩
abbrev main_call2_cst_1 : Ref sig .tc := ⟨.hbm, 98, rfl⟩
abbrev main_call2_v8 : Ref sig .tc := ⟨.hbm, 99, rfl⟩
abbrev main_call2_cst_2 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_cst_3 : Ref sig .tc := ⟨.hbm, 104, rfl⟩
abbrev main_call2_v12 : Ref sig .tc := ⟨.hbm, 105, rfl⟩
abbrev main_call2_cst_4 : Ref sig .tc := ⟨.hbm, 106, rfl⟩
abbrev main_call2_call0_v0 : Ref sig .tc := ⟨.hbm, 107, rfl⟩
abbrev main_call2_call0_v1 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_cst_10 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩

abbrev nD : Nat := 1
abbrev τ : Topo := Topo.v7x

variable {F : FTy → Type} [FloatOps F]
-- ==== Proof.KernelIdeal.Pass1.lean ====
/-
  The first pallas_call's body at one grid point, as a triple over whole staging buffers: what each output's buffer and the
  scratch hold when it returns, named by the printed payloads (`k0_pay…`) of what its inputs held.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.OfKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's one branch condition at coordinates `i`: the point is the first. -/
abbrev first0 (i : grid0.Coords) : Prop := (Scalar.cmpi .ne (Scalar.extui (Scalar.cmpi .eq (BitVec.ofNat 32 (i 0).val) 0#32)) 0#32) = 1#1

/-- It holds at point 0 and nowhere else. -/
theorem first0_iff (t : Fin cfg0.N) : first0 (grid0.coords t) ↔ t.val = 0 := by
  have ht : t.val < 25 := Nat.lt_of_lt_of_eq t.isLt N_0
  have e0 : (grid0.coords t 0).val = t.val / 1 % 25 := Pipeline.Grid.coords_val t 0 (by decide) rfl
  simp only [first0, e0]
  word_cmp

set_option maxHeartbeats 1000000 in
/-- At the first point: the scratch ends at the features times the weights, the block's product and codes are stored, and
    the two sums start from zero. -/
theorem body0_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S400x10000 .f32) (harg3 : arg3.IsWhole) (arg4 : Memref sig .tc .vmem S400x128 .bf16) (harg4 : arg4.IsWhole) (arg5 : Memref sig .tc .vmem S400x10000 .i8) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .bf16) (harg8 : arg8.IsWhole) (hc0 : first0 i)
    (x0 : Vec F S10000x128 .f32) (x1 : Vec F S128x128 .f32) (x2 : Vec F S400x10000 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay5 x2 (k0_pay1 x0 x1)) ∗ owns (c : Thread nD τ) arg5 fullShare (k0_pay6 x2)
            ∗ owns (c : Thread nD τ) arg6 fullShare (k0_pay7 x2 (k0_pay1 x0 x1) k0_pay2) ∗ owns (c : Thread nD τ) arg7 fullShare (k0_pay8 x2 (k0_pay1 x0 x1) k0_pay3)
            ∗ owns (c : Thread nD τ) arg8 fullShare (k0_pay1 x0 x1)) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, Hk⟩
  obtain rfl := harg1.eq_unread hf0; obtain rfl := harg2.eq_unread hf1; obtain rfl := harg3.eq_unread hf2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    unfold body0_first.sl.v5 body0_first.sl.HS0_1
    rw [View.read_writes_full]
    repeat rw [View.readCov_full]
    repeat rw [View.readAt_full]
    rw [harg1.read_unread, harg2.read_unread, harg3.read_unread]
  isplitl [H4]
  · iexists _; isplitr; swap; · iexact H4
    ipureintro
    rw [View.read_writes_full]
    repeat rw [View.readAt_full]
    rw [harg3.read_unread]
  isplitl [H5]
  · iexists _; isplitr; swap; · iexact H5
    ipureintro
    unfold body0_first.sl.v5 body0_first.sl.HS0_1 body0_first.sl.v15 body0_first.sl.H5_1
    rw [View.read_writes_full]
    repeat rw [View.readCov_full]
    repeat rw [View.readAt_full]
    rw [harg1.read_unread, harg2.read_unread, harg3.read_unread]
  isplitl [H6]
  · iexists _; isplitr; swap; · iexact H6
    ipureintro
    unfold body0_first.sl.v5 body0_first.sl.HS0_1 body0_first.sl.v21 body0_first.sl.H6_1
    rw [View.read_writes_full]
    repeat rw [View.readCov_full]
    repeat rw [View.readAt_full]
    rw [harg1.read_unread, harg2.read_unread, harg3.read_unread]
  iexists _; isplitr; swap; · iexact HS0
  ipureintro
  unfold body0_first.sl.HS0_1
  rw [View.read_writes_full]
  repeat rw [View.readCov_full]
  repeat rw [View.readAt_full]
  rw [harg1.read_unread, harg2.read_unread]

set_option maxHeartbeats 1000000 in
/-- At a later point: the scratch is kept at what the first point left, the block's product and codes are stored, and the
    two sums go on from what they held. -/
theorem body0_later (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S400x10000 .f32) (harg3 : arg3.IsWhole) (arg4 : Memref sig .tc .vmem S400x128 .bf16) (harg4 : arg4.IsWhole) (arg5 : Memref sig .tc .vmem S400x10000 .i8) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .bf16) (harg8 : arg8.IsWhole) (hc0 : ¬first0 i)
    (x2 : Vec F S400x10000 .f32) (x5 x6 : Vec F S1x128 .f32) (s : Vec F S10000x128 .bf16) (E : Set ℕ) (K : PUnit → sProp 𝕄) :
    iprop(owns (c : Thread nD τ) arg3 fullShare x2 ∗ (∃ d, owns (c : Thread nD τ) arg4 fullShare d) ∗ (∃ d, owns (c : Thread nD τ) arg5 fullShare d) ∗ owns (c : Thread nD τ) arg6 fullShare x5 ∗ owns (c : Thread nD τ) arg7 fullShare x6 ∗ owns (c : Thread nD τ) arg8 fullShare s
        ∗ (iprop(owns (c : Thread nD τ) arg3 fullShare x2
            ∗ owns (c : Thread nD τ) arg4 fullShare (k0_pay5 x2 s) ∗ owns (c : Thread nD τ) arg5 fullShare (k0_pay6 x2)
            ∗ owns (c : Thread nD τ) arg6 fullShare (k0_pay7 x2 s x5) ∗ owns (c : Thread nD τ) arg7 fullShare (k0_pay8 x2 s x6)
            ∗ owns (c : Thread nD τ) arg8 fullShare s) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f2, %hf2, H2⟩, ⟨%d3, %f3, -, H3⟩, ⟨%d4, %f4, -, H4⟩, ⟨%f5, %hf5, H5⟩, ⟨%f6, %hf6, H6⟩, ⟨%fs0, %hfs0, HS0⟩, Hk⟩
  obtain rfl := harg3.eq_unread hf2; obtain rfl := harg6.eq_unread hf5; obtain rfl := harg7.eq_unread hf6; obtain rfl := harg8.eq_unread hfs0
  sl_exec (disch := first | sl_exact hc0)
  sl_step
  iapply Hk
  isplitl [H2]
  · iexists _; isplitr; · ipureintro; exact harg3.read_unread _
    iexact H2
  isplitl [H3]
  · iexists _; isplitr; swap; · iexact H3
    ipureintro
    rw [View.read_writes_full]
    repeat rw [View.readAt_full]
    rw [harg8.read_unread, harg3.read_unread]
  isplitl [H4]
  · iexists _; isplitr; swap; · iexact H4
    ipureintro
    rw [View.read_writes_full]
    repeat rw [View.readAt_full]
    rw [harg3.read_unread]
  isplitl [H5]
  · iexists _; isplitr; swap; · iexact H5
    ipureintro
    rw [View.read_writes_full]
    repeat rw [View.readAt_full]
    rw [harg8.read_unread, harg3.read_unread, harg6.read_unread]
  isplitl [H6]
  · iexists _; isplitr; swap; · iexact H6
    ipureintro
    rw [View.read_writes_full]
    repeat rw [View.readAt_full]
    rw [harg8.read_unread, harg3.read_unread, harg7.read_unread]
  iexists _; isplitr; · ipureintro; exact harg8.read_unread _
  iexact HS0

end Cert.Proof.OfKernelIdeal

end
-- ==== Proof.KernelIdeal.Region1st.lean ====
/-
  The first pallas_call as a pipelined region entered at any contents `V`: the proof data (what every staging buffer holds
  after each of the 25 points, what the scratch holds between them), the body's obligation, and the region itself, left with
  its four results written.
-/
module

public import proofs.«01_k».proof.Proof.KernelIdeal.Pass1
public import proofs.«01_k».proof.Proof.Gen.KernelIdeal.Regions

@[expose] public section

set_option maxRecDepth 16384

noncomputable section

namespace Cert.Proof.OfKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read from the array the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid point of a number (taken modulo 25). -/
def pt0 (n : ℕ) : Fin cfg0.N := ⟨n % 25, lt_of_lt_of_eq (Nat.mod_lt _ (by decide)) (show (25 : ℕ) = cfg0.N from N_0.symm)⟩

theorem pt0_val (t : Fin cfg0.N) : pt0 t.val = t :=
  Fin.ext (Nat.mod_eq_of_lt (lt_of_lt_of_eq t.isLt (show cfg0.N = 25 from N_0)))

/-- The adjacency's row block of point `n`. -/
def adjBlk (c : Dev nD) (n : ℕ) : Vec F S400x10000 .f32 := iblk0 V c 2 (pt0 n)

/-- What the first point leaves in the scratch: the features times the first weights. -/
def supp (c : Dev nD) : Vec F S10000x128 .bf16 := k0_pay1 (iblk0 V c 0 (pt0 0)) (iblk0 V c 1 (pt0 0))

/-- The column sums of the products of the first `n` blocks. -/
def sumAcc0 (c : Dev nD) : ℕ → Vec F S1x128 .f32
  | 0 => k0_pay2
  | n + 1 => k0_pay7 (adjBlk V c n) (supp V c) (sumAcc0 c n)

/-- The column sums of the squares of the products of the first `n` blocks. -/
def sqAcc0 (c : Dev nD) : ℕ → Vec F S1x128 .f32
  | 0 => k0_pay3
  | n + 1 => k0_pay8 (adjBlk V c n) (supp V c) (sqAcc0 c n)

/-- The scoped buffers the region does not touch, each at anything. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f))

/-- Between points: the scratch at the features times the weights (before the first point, at anything), the scoped
    buffers the region does not touch at anything. -/
def Phi0 (c : Dev nD) (n : ℕ) : sProp 𝕄 :=
  iprop((∃ s : Vec F S10000x128 .bf16, ⌜n ≠ 0 → s = supp V c⌝ ∗ owns (c : Thread nD τ) (Memref.whole cc0_scratch0) fullShare s) ∗ rest0 c)

/-- The region's proof data, from the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay5 (adjBlk V c t.val) (supp V c)
    | ⟨4, _⟩ => k0_pay6 (adjBlk V c t.val)
    | ⟨5, _⟩ => sumAcc0 V c (t.val + 1)
    | ⟨6, _⟩ => sqAcc0 V c (t.val + 1)
  Φ n := Phi0 V c n.val
  q _ := fullShare
  owed _ := 0

theorem dat0_A (c : Dev nD) (w : Fin cfg0.W) : (dat0 V c).A w = V c (Pipeline.arrRef spec0 w) := rfl
theorem dat0_after0 (c : Dev nD) (t : Fin cfg0.N) : (dat0 V c).after 0 t = iblk0 V c 0 t := rfl
theorem dat0_after1 (c : Dev nD) (t : Fin cfg0.N) : (dat0 V c).after 1 t = iblk0 V c 1 t := rfl
theorem dat0_after2 (c : Dev nD) (t : Fin cfg0.N) : (dat0 V c).after 2 t = iblk0 V c 2 t := rfl
theorem dat0_after3 (c : Dev nD) (t : Fin cfg0.N) : (dat0 V c).after 3 t = k0_pay5 (adjBlk V c t.val) (supp V c) := rfl
theorem dat0_after4 (c : Dev nD) (t : Fin cfg0.N) : (dat0 V c).after 4 t = k0_pay6 (adjBlk V c t.val) := rfl
theorem dat0_after5 (c : Dev nD) (t : Fin cfg0.N) : (dat0 V c).after 5 t = sumAcc0 V c (t.val + 1) := rfl
theorem dat0_after6 (c : Dev nD) (t : Fin cfg0.N) : (dat0 V c).after 6 t = sqAcc0 V c (t.val + 1) := rfl

/-- Every input's staging buffer holds its window's block when the body runs. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [dat0_after0]; unfold Dat.blockOf iblk0; rw [dat0_A]; try rfl) t d).trans
    (by unfold Dat.fetched Dat.blockOf iblk0; rw [dat0_A]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [dat0_after1]; unfold Dat.blockOf iblk0; rw [dat0_A]; try rfl) t d).trans
    (by unfold Dat.fetched Dat.blockOf iblk0; rw [dat0_A]; try rfl)

theorem before0_2 (c : Dev nD) (t : Fin cfg0.N) (d) : (dat0 V c).before 2 t d = adjBlk V c t.val :=
  ((dat0 V c).before_in_eq_fetched 2 rfl (fun _ => rfl) (fun _ _ _ => rfl)
    (fun t => by rw [dat0_after2]; unfold Dat.blockOf iblk0; rw [dat0_A]; try rfl) t d).trans
    (by unfold adjBlk; rw [pt0_val]; unfold Dat.fetched Dat.blockOf iblk0; rw [dat0_A]; try rfl)

/-- After the first point the two sums' staging buffers hold what the point before left. -/
theorem before0_5 (c : Dev nD) (t : Fin cfg0.N) (h0 : t.val ≠ 0) (d) : (dat0 V c).before 5 t d = sumAcc0 V c t.val := by
  have hN : t.val < 25 := lt_of_lt_of_eq t.isLt (show cfg0.N = 25 from N_0)
  rw [Dat.before_out_kept _ 5 rfl t (by omega) (Bool.eq_false_iff.mpr fun h => by have := (flush0_5 _).mp h; dsimp only at this; omega)
    (fun _ => rfl) (fun _ _ => rfl), dat0_after5]
  exact congrArg (sumAcc0 V c) (show t.val - 1 + 1 = t.val by omega)

theorem before0_6 (c : Dev nD) (t : Fin cfg0.N) (h0 : t.val ≠ 0) (d) : (dat0 V c).before 6 t d = sqAcc0 V c t.val := by
  have hN : t.val < 25 := lt_of_lt_of_eq t.isLt (show cfg0.N = 25 from N_0)
  rw [Dat.before_out_kept _ 6 rfl t (by omega) (Bool.eq_false_iff.mpr fun h => by have := (flush0_6 _).mp h; dsimp only at this; omega)
    (fun _ => rfl) (fun _ _ => rfl), dat0_after6]
  exact congrArg (sqAcc0 V c) (show t.val - 1 + 1 = t.val by omega)

/-- The two whole windows are the same block at every point. -/
theorem iblk0_const0 (c : Dev nD) (t : Fin cfg0.N) (h : t.val = 0) : iblk0 V c 0 t = iblk0 V c 0 (pt0 0) := by
  rw [← pt0_val t, h]
theorem iblk0_const1 (c : Dev nD) (t : Fin cfg0.N) (h : t.val = 0) : iblk0 V c 1 t = iblk0 V c 1 (pt0 0) := by
  rw [← pt0_val t, h]

theorem defs₀_row0 (t : Fin cfg0.N) :
    (defs₀ (F := F)) .tc cfg0.body (cfg0.bodyArgs t (cfg0.slots t)) = bodyAt0 t := by
  unfold defs₀; rw [Defs.onTc_tc]

/-- The body at every point, from what the windows' buffers hold before it to what they hold after it. -/
theorem body_obligation0 (c : Dev nD) : BodyObligation (dat0 (F := F) V c) (defs₀ (F := F)) Variants.none () Set.univ := fun t => by
  rw [bigSep_W0, bigSep_W0, defs₀_row0]
  show iprop((dat0 V c).Φ t.castSucc ∗ (dat0 V c).owesAt () t.castSucc
      ∗ (∃ d, owns (c : Thread nD τ) (st0_0 t) fullShare ((dat0 V c).before 0 t d)) ∗ (∃ d, owns (c : Thread nD τ) (st0_1 t) fullShare ((dat0 V c).before 1 t d))
      ∗ (∃ d, owns (c : Thread nD τ) (st0_2 t) fullShare ((dat0 V c).before 2 t d)) ∗ (∃ d, owns (c : Thread nD τ) (st0_3 t) fullShare ((dat0 V c).before 3 t d))
      ∗ (∃ d, owns (c : Thread nD τ) (st0_4 t) fullShare ((dat0 V c).before 4 t d)) ∗ (∃ d, owns (c : Thread nD τ) (st0_5 t) fullShare ((dat0 V c).before 5 t d))
      ∗ (∃ d, owns (c : Thread nD τ) (st0_6 t) fullShare ((dat0 V c).before 6 t d))) ⊢
    wp frame (wpE (defs₀ (F := F)) Variants.none c none) Set.univ (bodyAt0 t) fun _ =>
      iprop((dat0 V c).Φ t.succ ∗ (dat0 V c).owesAt () t.castSucc
      ∗ owns (c : Thread nD τ) (st0_0 t) fullShare (iblk0 V c 0 t) ∗ owns (c : Thread nD τ) (st0_1 t) fullShare (iblk0 V c 1 t)
      ∗ owns (c : Thread nD τ) (st0_2 t) fullShare (iblk0 V c 2 t) ∗ owns (c : Thread nD τ) (st0_3 t) fullShare (k0_pay5 (adjBlk V c t.val) (supp V c))
      ∗ owns (c : Thread nD τ) (st0_4 t) fullShare (k0_pay6 (adjBlk V c t.val)) ∗ owns (c : Thread nD τ) (st0_5 t) fullShare (sumAcc0 V c (t.val + 1))
      ∗ owns (c : Thread nD τ) (st0_6 t) fullShare (sqAcc0 V c (t.val + 1)))
  rw [show (dat0 V c).Φ t.castSucc = Phi0 V c t.val from rfl, show (dat0 V c).Φ t.succ = Phi0 V c (t.val + 1) from rfl,
    show iblk0 V c 2 t = adjBlk V c t.val from by unfold adjBlk; rw [pt0_val]]
  simp only [before0_0, before0_1, before0_2]
  unfold Phi0
  by_cases hz : t.val = 0
  · rw [iblk0_const0 V c t hz, iblk0_const1 V c t hz]
    iintro ⟨⟨⟨%s, -, HS⟩, Hr⟩, Ho, ⟨%d0, H0⟩, ⟨%d1, H1⟩, ⟨%d2, H2⟩, ⟨%d3, H3⟩, ⟨%d4, H4⟩, ⟨%d5, H5⟩, ⟨%d6, H6⟩⟩
    iapply (body0_first c (grid0.coords t) _ _ _ _ _ _ _ _ _ _ _ _ _ _ _ _ ((first0_iff t).mpr hz) (iblk0 V c 0 (pt0 0)) (iblk0 V c 1 (pt0 0)) (adjBlk V c t.val) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS]; · iexists _; iexact HS
    iintro ⟨H0, H1, H2, H3, H4, H5, H6, HS⟩
    isplitl [HS Hr]
    · isplitl [HS]
      · iexists _; isplitr; swap; · iexact HS
        ipureintro; exact fun _ => rfl
      iexact Hr
    isplitl [Ho]; · iexact Ho
    isplitl [H0]; · iexact H0
    isplitl [H1]; · iexact H1
    isplitl [H2]; · iexact H2
    isplitl [H3]; · iexact H3
    isplitl [H4]; · iexact H4
    rw [show sumAcc0 V c (t.val + 1) = k0_pay7 (adjBlk V c t.val) (supp V c) k0_pay2 from by
          show k0_pay7 (adjBlk V c t.val) (supp V c) (sumAcc0 V c t.val) = _
          rw [hz]; rfl,
        show sqAcc0 V c (t.val + 1) = k0_pay8 (adjBlk V c t.val) (supp V c) k0_pay3 from by
          show k0_pay8 (adjBlk V c t.val) (supp V c) (sqAcc0 V c t.val) = _
          rw [hz]; rfl]
    isplitl [H5]; · iexact H5
    iexact H6
  · simp only [before0_5 V c t hz, before0_6 V c t hz]
    iintro ⟨⟨⟨%s, %hs, HS⟩, Hr⟩, Ho, ⟨%d0, H0⟩, ⟨%d1, H1⟩, ⟨%d2, H2⟩, ⟨%d3, H3⟩, ⟨%d4, H4⟩, ⟨%d5, H5⟩, ⟨%d6, H6⟩⟩
    obtain rfl := hs hz
    iapply (body0_later c (grid0.coords t) _ (hstage0_0 _) _ (hstage0_1 _) _ _ _ _ _ _ _ _ _ _ _ _ (fun h => hz ((first0_iff t).mp h)) (adjBlk V c t.val) (sumAcc0 V c t.val) (sqAcc0 V c t.val) (supp V c) Set.univ _)
    isplitl [H2]; · iexact H2
    isplitl [H3]; · iexists _; iexact H3
    isplitl [H4]; · iexists _; iexact H4
    isplitl [H5]; · iexact H5
    isplitl [H6]; · iexact H6
    isplitl [HS]; · iexact HS
    iintro ⟨H2, H3, H4, H5, H6, HS⟩
    isplitl [HS Hr]
    · isplitl [HS]
      · iexists _; isplitr; swap; · iexact HS
        ipureintro; exact fun _ => rfl
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

end Cert.Proof.OfKernelIdeal

end
-- ==== Proof.KernelIdeal.Pass2.lean ====
/-
  The second pallas_call's body at one grid point, as a triple over whole staging buffers: what each output's buffer and the
  scratch hold when it returns, named by the printed payloads (`k1_pay…`) of what its inputs held.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.OfKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The second body's first condition at coordinates `i`: the point is the first. -/
abbrev first1 (i : grid1.Coords) : Prop := (Scalar.cmpi .ne (Scalar.extui (Scalar.cmpi .eq (BitVec.ofNat 32 (i 0).val) 0#32)) 0#32) = 1#1

/-- The second body's third condition at coordinates `i`: the point is the first of the second half. -/
abbrev half1 (i : grid1.Coords) : Prop := (Scalar.cmpi .ne (Scalar.extui (Scalar.cmpi .eq (BitVec.ofNat 32 (i 0).val) 10#32)) 0#32) = 1#1

/-- Point 0 and no other is the first. -/
theorem first1_iff (t : Fin cfg1.N) : first1 (grid1.coords t) ↔ t.val = 0 := by
  have ht : t.val < 20 := Nat.lt_of_lt_of_eq t.isLt N_1
  have e0 : (grid1.coords t 0).val = t.val / 1 % 20 := Pipeline.Grid.coords_val t 0 (by decide) rfl
  simp only [first1, e0]
  word_cmp

/-- Point 10 and no other starts the second half. -/
theorem half1_iff (t : Fin cfg1.N) : half1 (grid1.coords t) ↔ t.val = 10 := by
  have ht : t.val < 20 := Nat.lt_of_lt_of_eq t.isLt N_1
  have e0 : (grid1.coords t 0).val = t.val / 1 % 20 := Pipeline.Grid.coords_val t 0 (by decide) rfl
  simp only [half1, e0]
  word_cmp

/-- The second condition holds at the first ten points. -/
theorem cond2_iff (t : Fin cfg1.N) : k1_cond2 (grid1.coords t) = 1#1 ↔ t.val < 10 := by
  have h : ∀ t : Fin cfg1.N, k1_cond2 (grid1.coords t) = 1#1 ↔ t.val < 10 := by decide +kernel
  exact h t

/-- The fourth condition holds at the last ten points. -/
theorem cond4_iff (t : Fin cfg1.N) : k1_cond4 (grid1.coords t) = 1#1 ↔ 10 ≤ t.val := by
  have h : ∀ t : Fin cfg1.N, k1_cond4 (grid1.coords t) = 1#1 ↔ 10 ≤ t.val := by decide +kernel
  exact h t

/-- Where the first half stores its block of the second product: rows `1000 t` on. -/
theorem off1_eq (t : Fin cfg1.N) (h : t.val < 10) : k1_off1 (grid1.coords t) = ![1000 * t.val, 0] := by
  have h' : ∀ t : Fin cfg1.N, t.val < 10 → k1_off1 (grid1.coords t) = ![1000 * t.val, 0] := by decide +kernel
  exact h' t h

/-- Where the second half loads its block from: rows `1000 (t − 10)` on. -/
theorem off2_eq (t : Fin cfg1.N) (h : 10 ≤ t.val) : k1_off2 (grid1.coords t) = ![1000 * (t.val - 10), 0] := by
  have h' : ∀ t : Fin cfg1.N, 10 ≤ t.val → k1_off2 (grid1.coords t) = ![1000 * (t.val - 10), 0] := by decide +kernel
  exact h' t h

set_option maxHeartbeats 2000000 in
/-- At the first point: the layer's input matrix is made, its first block multiplied and stored, the two sums start. -/
theorem body1_first (c : Dev nD) (i : grid1.Coords) (arg1 : Memref sig .tc .vmem S10000x128 .bf16) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1000x10000 .i8) (harg7 : arg7.IsWhole) (arg8 : Memref sig .tc .vmem S1000x128 .f32) (harg8 : arg8.IsWhole) (arg9 : Memref sig .tc .vmem S10000x128 .bf16) (harg9 : arg9.IsWhole) (arg10 : Memref sig .tc .vmem S10000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (h1 : first1 i) (h2 : k1_cond2 i = 1#1) (h3 : ¬half1 i) (h4 : ¬k1_cond4 i = 1#1)
    (x : Vec F S10000x128 .bf16) (w : Vec F S128x128 .f32) (a : Vec F S1x128 .f32) (c1 : Vec F S1x128 .f32) (q : Vec F S1000x10000 .i8) (x10 : Vec F S10000x128 .f32) (E : Set ℕ) (K : PUnit → sProp 𝕄) :
    iprop(owns (c : Thread nD τ) arg1 fullShare x ∗ owns (c : Thread nD τ) arg2 fullShare w ∗ owns (c : Thread nD τ) arg3 fullShare a ∗ owns (c : Thread nD τ) arg4 fullShare c1 ∗ owns (c : Thread nD τ) arg7 fullShare q ∗ (∃ d, owns (c : Thread nD τ) arg9 fullShare d) ∗ owns (c : Thread nD τ) arg10 fullShare x10 ∗ (∃ d, owns (c : Thread nD τ) arg11 fullShare d) ∗ (∃ d, owns (c : Thread nD τ) arg12 fullShare d)
        ∗ (iprop(owns (c : Thread nD τ) arg1 fullShare x ∗ owns (c : Thread nD τ) arg2 fullShare w ∗ owns (c : Thread nD τ) arg3 fullShare a ∗ owns (c : Thread nD τ) arg4 fullShare c1 ∗ owns (c : Thread nD τ) arg7 fullShare q ∗ owns (c : Thread nD τ) arg9 fullShare (k1_pay1 x a c1 w) ∗ owns (c : Thread nD τ) arg10 fullShare (VecWindow.put x10 (k1_off1 i) S1000x128.size (k1_pay5 q (k1_pay1 x a c1 w))) ∗ owns (c : Thread nD τ) arg11 fullShare (k1_pay6 q (k1_pay1 x a c1 w) k1_pay2) ∗ owns (c : Thread nD τ) arg12 fullShare (k1_pay7 q (k1_pay1 x a c1 w) k1_pay3)) -∗ K ⟨⟩))
      ⊢ wp frame (wpE (defs₀ (F := F)) Variants.none c none) E (cc1__pass2_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__pass2_body_eq_skeleton]; unfold cc1__pass2_body_skel
  unfold owns
  iintro ⟨⟨%farg1, %hfarg1, Harg1⟩, ⟨%farg2, %hfarg2, Harg2⟩, ⟨%farg3, %hfarg3, Harg3⟩, ⟨%farg4, %hfarg4, Harg4⟩, ⟨%farg7, %hfarg7, Harg7⟩, ⟨%darg9, %farg9, -, Harg9⟩, ⟨%farg10, %hfarg10, Harg10⟩, ⟨%darg11, %farg11, -, Harg11⟩, ⟨%darg12, %farg12, -, Harg12⟩, Hk⟩
  obtain rfl := harg1.eq_unread hfarg1
  obtain rfl := harg2.eq_unread hfarg2
  obtain rfl := harg3.eq_unread hfarg3
  obtain rfl := harg4.eq_unread hfarg4
  obtain rfl := harg7.eq_unread hfarg7
  obtain rfl := harg10.eq_unread hfarg10
  sl_exec (disch := first | sl_exact h1 | sl_exact h2 | sl_exact h3 | sl_exact h4)
  sl_step
  iapply Hk
  isplitl [Harg1]
  · iexists _; isplitr; · ipureintro; exact harg1.read_unread _
    iexact Harg1
  isplitl [Harg2]
  · iexists _; isplitr; · ipureintro; exact harg2.read_unread _
    iexact Harg2
  isplitl [Harg3]
  · iexists _; isplitr; · ipureintro; exact harg3.read_unread _
    iexact Harg3
  isplitl [Harg4]
  · iexists _; isplitr; · ipureintro; exact harg4.read_unread _
    iexact Harg4
  isplitl [Harg7]
  · iexists _; isplitr; · ipureintro; exact harg7.read_unread _
    iexact Harg7
  isplitl [Harg9]
  · iexists _; isplitr; swap; · iexact Harg9
    ipureintro
    unfold body1_first.sl.Harg9_1
    rw [View.read_writes_full]
    repeat rw [View.readCov_full]
    repeat rw [View.readAt_full]
    repeat rw [Memref.IsWhole.read_unread]
  isplitl [Harg10]
  · iexists _; isplitr; swap; · iexact Harg10
    ipureintro
    unfold body1_first.sl.v15 body1_first.sl.Harg9_1
    rw [View.read_writes_cons_put _ _ _ _ _ rfl]; rw [View.writes_nil]
    repeat rw [View.readCov_full]
    repeat rw [View.readAt_full]
    repeat rw [Memref.IsWhole.read_unread]
  isplitl [Harg11]
  · iexists _; isplitr; swap; · iexact Harg11
    ipureintro
    unfold body1_first.sl.v15 body1_first.sl.v22 body1_first.sl.Harg9_1 body1_first.sl.Harg11_1
    rw [View.read_writes_full]
    repeat rw [View.readCov_full]
    repeat rw [View.readAt_full]
    repeat rw [Memref.IsWhole.read_unread]
  iexists _; isplitr; swap; · iexact Harg12
  ipureintro
  unfold body1_first.sl.v15 body1_first.sl.v29 body1_first.sl.Harg9_1 body1_first.sl.Harg12_1
  rw [View.read_writes_full]
  repeat rw [View.readCov_full]
  repeat rw [View.readAt_full]
  repeat rw [Memref.IsWhole.read_unread]

set_option maxHeartbeats 2000000 in
/-- At a later point of the first half: one more block is multiplied and stored, the two sums go on. -/
theorem body1_more (c : Dev nD) (i : grid1.Coords) (arg1 : Memref sig .tc .vmem S10000x128 .bf16) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1000x10000 .i8) (harg7 : arg7.IsWhole) (arg8 : Memref sig .tc .vmem S1000x128 .f32) (harg8 : arg8.IsWhole) (arg9 : Memref sig .tc .vmem S10000x128 .bf16) (harg9 : arg9.IsWhole) (arg10 : Memref sig .tc .vmem S10000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (h1 : ¬first1 i) (h2 : k1_cond2 i = 1#1) (h3 : ¬half1 i) (h4 : ¬k1_cond4 i = 1#1)
    (q : Vec F S1000x10000 .i8) (m : Vec F S10000x128 .bf16) (x10 : Vec F S10000x128 .f32) (s : Vec F S1x128 .f32) (r : Vec F S1x128 .f32) (E : Set ℕ) (K : PUnit → sProp 𝕄) :
    iprop(owns (c : Thread nD τ) arg7 fullShare q ∗ owns (c : Thread nD τ) arg9 fullShare m ∗ owns (c : Thread nD τ) arg10 fullShare x10 ∗ owns (c : Thread nD τ) arg11 fullShare s ∗ owns (c : Thread nD τ) arg12 fullShare r
        ∗ (iprop(owns (c : Thread nD τ) arg7 fullShare q ∗ owns (c : Thread nD τ) arg9 fullShare m ∗ owns (c : Thread nD τ) arg10 fullShare (VecWindow.put x10 (k1_off1 i) S1000x128.size (k1_pay5 q m)) ∗ owns (c : Thread nD τ) arg11 fullShare (k1_pay6 q m s) ∗ owns (c : Thread nD τ) arg12 fullShare (k1_pay7 q m r)) -∗ K ⟨⟩))
      ⊢ wp frame (wpE (defs₀ (F := F)) Variants.none c none) E (cc1__pass2_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__pass2_body_eq_skeleton]; unfold cc1__pass2_body_skel
  unfold owns
  iintro ⟨⟨%farg7, %hfarg7, Harg7⟩, ⟨%farg9, %hfarg9, Harg9⟩, ⟨%farg10, %hfarg10, Harg10⟩, ⟨%farg11, %hfarg11, Harg11⟩, ⟨%farg12, %hfarg12, Harg12⟩, Hk⟩
  obtain rfl := harg7.eq_unread hfarg7
  obtain rfl := harg9.eq_unread hfarg9
  obtain rfl := harg10.eq_unread hfarg10
  obtain rfl := harg11.eq_unread hfarg11
  obtain rfl := harg12.eq_unread hfarg12
  sl_exec (disch := first | sl_exact h1 | sl_exact h2 | sl_exact h3 | sl_exact h4)
  sl_step
  iapply Hk
  isplitl [Harg7]
  · iexists _; isplitr; · ipureintro; exact harg7.read_unread _
    iexact Harg7
  isplitl [Harg9]
  · iexists _; isplitr; · ipureintro; exact harg9.read_unread _
    iexact Harg9
  isplitl [Harg10]
  · iexists _; isplitr; swap; · iexact Harg10
    ipureintro
    rw [View.read_writes_cons_put _ _ _ _ _ rfl]; rw [View.writes_nil]
    repeat rw [View.readCov_full]
    repeat rw [View.readAt_full]
    repeat rw [Memref.IsWhole.read_unread]
  isplitl [Harg11]
  · iexists _; isplitr; swap; · iexact Harg11
    ipureintro
    rw [View.read_writes_full]
    repeat rw [View.readCov_full]
    repeat rw [View.readAt_full]
    repeat rw [Memref.IsWhole.read_unread]
  iexists _; isplitr; swap; · iexact Harg12
  ipureintro
  rw [View.read_writes_full]
  repeat rw [View.readCov_full]
  repeat rw [View.readAt_full]
  repeat rw [Memref.IsWhole.read_unread]

set_option maxHeartbeats 2000000 in
/-- At the first point of the second half: the normalisation's coefficients are made, the first block is normalised and stored. -/
theorem body1_half (c : Dev nD) (i : grid1.Coords) (arg1 : Memref sig .tc .vmem S10000x128 .bf16) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1000x10000 .i8) (harg7 : arg7.IsWhole) (arg8 : Memref sig .tc .vmem S1000x128 .f32) (harg8 : arg8.IsWhole) (arg9 : Memref sig .tc .vmem S10000x128 .bf16) (harg9 : arg9.IsWhole) (arg10 : Memref sig .tc .vmem S10000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (h1 : ¬first1 i) (h2 : ¬k1_cond2 i = 1#1) (h3 : half1 i) (h4 : k1_cond4 i = 1#1)
    (g : Vec F S1x128 .f32) (b : Vec F S1x128 .f32) (x10 : Vec F S10000x128 .f32) (s : Vec F S1x128 .f32) (r : Vec F S1x128 .f32) (E : Set ℕ) (K : PUnit → sProp 𝕄) :
    iprop(owns (c : Thread nD τ) arg5 fullShare g ∗ owns (c : Thread nD τ) arg6 fullShare b ∗ (∃ d, owns (c : Thread nD τ) arg8 fullShare d) ∗ owns (c : Thread nD τ) arg10 fullShare x10 ∗ owns (c : Thread nD τ) arg11 fullShare s ∗ owns (c : Thread nD τ) arg12 fullShare r ∗ (∃ d, owns (c : Thread nD τ) arg13 fullShare d) ∗ (∃ d, owns (c : Thread nD τ) arg14 fullShare d)
        ∗ (iprop(owns (c : Thread nD τ) arg5 fullShare g ∗ owns (c : Thread nD τ) arg6 fullShare b ∗ owns (c : Thread nD τ) arg8 fullShare (k1_pay12 (VecWindow.window x10 (k1_off2 i) S1000x128.size (k1_off2_inb i h4)) (k1_pay10 s r g) (k1_pay11 s r g b)) ∗ owns (c : Thread nD τ) arg10 fullShare x10 ∗ owns (c : Thread nD τ) arg11 fullShare s ∗ owns (c : Thread nD τ) arg12 fullShare r ∗ owns (c : Thread nD τ) arg13 fullShare (k1_pay10 s r g) ∗ owns (c : Thread nD τ) arg14 fullShare (k1_pay11 s r g b)) -∗ K ⟨⟩))
      ⊢ wp frame (wpE (defs₀ (F := F)) Variants.none c none) E (cc1__pass2_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__pass2_body_eq_skeleton]; unfold cc1__pass2_body_skel
  unfold owns
  iintro ⟨⟨%farg5, %hfarg5, Harg5⟩, ⟨%farg6, %hfarg6, Harg6⟩, ⟨%darg8, %farg8, -, Harg8⟩, ⟨%farg10, %hfarg10, Harg10⟩, ⟨%farg11, %hfarg11, Harg11⟩, ⟨%farg12, %hfarg12, Harg12⟩, ⟨%darg13, %farg13, -, Harg13⟩, ⟨%darg14, %farg14, -, Harg14⟩, Hk⟩
  obtain rfl := harg5.eq_unread hfarg5
  obtain rfl := harg6.eq_unread hfarg6
  obtain rfl := harg10.eq_unread hfarg10
  obtain rfl := harg11.eq_unread hfarg11
  obtain rfl := harg12.eq_unread hfarg12
  sl_exec (disch := first | sl_exact h1 | sl_exact h2 | sl_exact h3 | sl_exact h4)
  sl_step
  iapply Hk
  isplitl [Harg5]
  · iexists _; isplitr; · ipureintro; exact harg5.read_unread _
    iexact Harg5
  isplitl [Harg6]
  · iexists _; isplitr; · ipureintro; exact harg6.read_unread _
    iexact Harg6
  isplitl [Harg8]
  · iexists _; isplitr; swap; · iexact Harg8
    ipureintro
    unfold body1_half.sl.v16 body1_half.sl.v19 body1_half.sl.Harg13_1 body1_half.sl.Harg14_1
    rw [View.read_writes_full]
    repeat rw [View.readCov_full]
    repeat rw [View.readAt_full]
    rw [View.readAt_unit _ _ _ rfl (k1_off2_inb i h4)]
    repeat rw [Memref.IsWhole.read_unread]
  isplitl [Harg10]
  · iexists _; isplitr; · ipureintro; exact harg10.read_unread _
    iexact Harg10
  isplitl [Harg11]
  · iexists _; isplitr; · ipureintro; exact harg11.read_unread _
    iexact Harg11
  isplitl [Harg12]
  · iexists _; isplitr; · ipureintro; exact harg12.read_unread _
    iexact Harg12
  isplitl [Harg13]
  · iexists _; isplitr; swap; · iexact Harg13
    ipureintro
    unfold body1_half.sl.Harg13_1
    rw [View.read_writes_full]
    repeat rw [View.readCov_full]
    repeat rw [View.readAt_full]
    repeat rw [Memref.IsWhole.read_unread]
  iexists _; isplitr; swap; · iexact Harg14
  ipureintro
  unfold body1_half.sl.Harg14_1
  rw [View.read_writes_full]
  repeat rw [View.readCov_full]
  repeat rw [View.readAt_full]
  repeat rw [Memref.IsWhole.read_unread]

set_option maxHeartbeats 2000000 in
/-- At a later point of the second half: one more block is normalised and stored. -/
theorem body1_last (c : Dev nD) (i : grid1.Coords) (arg1 : Memref sig .tc .vmem S10000x128 .bf16) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1000x10000 .i8) (harg7 : arg7.IsWhole) (arg8 : Memref sig .tc .vmem S1000x128 .f32) (harg8 : arg8.IsWhole) (arg9 : Memref sig .tc .vmem S10000x128 .bf16) (harg9 : arg9.IsWhole) (arg10 : Memref sig .tc .vmem S10000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (h1 : ¬first1 i) (h2 : ¬k1_cond2 i = 1#1) (h3 : ¬half1 i) (h4 : k1_cond4 i = 1#1)
    (x10 : Vec F S10000x128 .f32) (a : Vec F S1x128 .f32) (b : Vec F S1x128 .f32) (E : Set ℕ) (K : PUnit → sProp 𝕄) :
    iprop((∃ d, owns (c : Thread nD τ) arg8 fullShare d) ∗ owns (c : Thread nD τ) arg10 fullShare x10 ∗ owns (c : Thread nD τ) arg13 fullShare a ∗ owns (c : Thread nD τ) arg14 fullShare b
        ∗ (iprop(owns (c : Thread nD τ) arg8 fullShare (k1_pay12 (VecWindow.window x10 (k1_off2 i) S1000x128.size (k1_off2_inb i h4)) a b) ∗ owns (c : Thread nD τ) arg10 fullShare x10 ∗ owns (c : Thread nD τ) arg13 fullShare a ∗ owns (c : Thread nD τ) arg14 fullShare b) -∗ K ⟨⟩))
      ⊢ wp frame (wpE (defs₀ (F := F)) Variants.none c none) E (cc1__pass2_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__pass2_body_eq_skeleton]; unfold cc1__pass2_body_skel
  unfold owns
  iintro ⟨⟨%darg8, %farg8, -, Harg8⟩, ⟨%farg10, %hfarg10, Harg10⟩, ⟨%farg13, %hfarg13, Harg13⟩, ⟨%farg14, %hfarg14, Harg14⟩, Hk⟩
  obtain rfl := harg10.eq_unread hfarg10
  obtain rfl := harg13.eq_unread hfarg13
  obtain rfl := harg14.eq_unread hfarg14
  sl_exec (disch := first | sl_exact h1 | sl_exact h2 | sl_exact h3 | sl_exact h4)
  sl_step
  iapply Hk
  isplitl [Harg8]
  · iexists _; isplitr; swap; · iexact Harg8
    ipureintro
    rw [View.read_writes_full]
    repeat rw [View.readCov_full]
    repeat rw [View.readAt_full]
    rw [View.readAt_unit _ _ _ rfl (k1_off2_inb i h4)]
    repeat rw [Memref.IsWhole.read_unread]
  isplitl [Harg10]
  · iexists _; isplitr; · ipureintro; exact harg10.read_unread _
    iexact Harg10
  isplitl [Harg13]
  · iexists _; isplitr; · ipureintro; exact harg13.read_unread _
    iexact Harg13
  iexists _; isplitr; · ipureintro; exact harg14.read_unread _
  iexact Harg14

end Cert.Proof.OfKernelIdeal

end
-- ==== Proof.KernelIdeal.Region2nd.lean ====
/-
  The second pallas_call as a pipelined region entered at any contents `V`: the proof data (what every staging buffer holds
  after each of the 20 points, what the six scratch buffers hold between them), and the body's obligation. The first ten
  points make the second product block by block in scratch, the last ten normalise it block by block.
-/
module

public import proofs.«01_k».proof.Proof.KernelIdeal.Pass2
public import proofs.«01_k».proof.Proof.Gen.KernelIdeal.Regions

@[expose] public section

set_option maxRecDepth 16384

noncomputable section

namespace Cert.Proof.OfKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read from the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The grid point of a number (taken modulo 20). -/
def pt1 (n : ℕ) : Fin cfg1.N := ⟨n % 20, lt_of_lt_of_eq (Nat.mod_lt _ (by decide)) (show (20 : ℕ) = cfg1.N from N_1.symm)⟩

theorem pt1_val (t : Fin cfg1.N) : pt1 t.val = t :=
  Fin.ext (Nat.mod_eq_of_lt (lt_of_lt_of_eq t.isLt (show cfg1.N = 20 from N_1)))

/-- The block of the adjacency's codes of point `n`. -/
def codeBlk (c : Dev nD) (n : ℕ) : Vec F S1000x10000 .i8 := iblk1 V c 6 (pt1 n)

/-- The second product's right operand, made at the first point: the first layer normalised, times the second weights. -/
def mat1 (c : Dev nD) : Vec F S10000x128 .bf16 :=
  k1_pay1 (iblk1 V c 0 (pt1 0)) (iblk1 V c 2 (pt1 0)) (iblk1 V c 3 (pt1 0)) (iblk1 V c 1 (pt1 0))

/-- Row block `j` of the second product. -/
def prod1 (c : Dev nD) (j : ℕ) : Vec F S1000x128 .f32 := k1_pay5 (codeBlk V c j) (mat1 V c)

/-- The column sums of the first `n` row blocks of the second product. -/
def sumAcc1 (c : Dev nD) : ℕ → Vec F S1x128 .f32
  | 0 => k1_pay2
  | n + 1 => k1_pay6 (codeBlk V c n) (mat1 V c) (sumAcc1 c n)

/-- The column sums of the squares of the first `n` row blocks of the second product. -/
def sqAcc1 (c : Dev nD) : ℕ → Vec F S1x128 .f32
  | 0 => k1_pay3
  | n + 1 => k1_pay7 (codeBlk V c n) (mat1 V c) (sqAcc1 c n)

/-- The second normalisation's factor. -/
def fac1 (c : Dev nD) : Vec F S1x128 .f32 := k1_pay10 (sumAcc1 V c 10) (sqAcc1 V c 10) (iblk1 V c 4 (pt1 10))

/-- The second normalisation's shift. -/
def shift1 (c : Dev nD) : Vec F S1x128 .f32 := k1_pay11 (sumAcc1 V c 10) (sqAcc1 V c 10) (iblk1 V c 4 (pt1 10)) (iblk1 V c 5 (pt1 10))

/-- The result's row block `j`. -/
def res1 (c : Dev nD) (j : ℕ) : Vec F S1000x128 .f32 := k1_pay12 (prod1 V c j) (fac1 V c) (shift1 V c)

/-- The scoped buffers the region does not touch, each at anything. -/
def rest1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_scratch0), ((c : Thread nD τ).loc cc0_scratch0) ↦{fullShare} f))

theorem rows_inb (j : ℕ) (hj : j < 10) : ∀ a, (![1000 * j, 0] : Fin 2 → ℕ) a + S1000x128.size a ≤ S10000x128.size a := by
  intro a
  fin_cases a
  · show 1000 * j + 1000 ≤ 10000
    omega
  · show 0 + 128 ≤ 128
    omega

/-- What the six scratch buffers hold before point `n`: after the first point the right operand is made and the sums cover
    the blocks multiplied so far, of which each is in its rows; after point 10 the factor and the shift are made. -/
structure Inv1 (c : Dev nD) (n : ℕ) (m : Vec F S10000x128 .bf16) (x : Vec F S10000x128 .f32) (s r a b : Vec F S1x128 .f32) : Prop where
  mat : n ≠ 0 → m = mat1 V c
  sum : n ≠ 0 → s = sumAcc1 V c (min n 10)
  sq : n ≠ 0 → r = sqAcc1 V c (min n 10)
  rows : ∀ j (hj : j < 10), j < n → VecWindow.window x ![1000 * j, 0] S1000x128.size (rows_inb j hj) = prod1 V c j
  fac : 10 < n → a = fac1 V c
  shift : 10 < n → b = shift1 V c

/-- Between points: the scratch buffers as `Inv1` says, the scoped buffers the region does not touch at anything. -/
def Phi1 (c : Dev nD) (n : ℕ) : sProp 𝕄 :=
  iprop((∃ (m : Vec F S10000x128 .bf16) (x : Vec F S10000x128 .f32) (s r a b : Vec F S1x128 .f32), ⌜Inv1 V c n m x s r a b⌝
    ∗ owns (c : Thread nD τ) (Memref.whole cc1_scratch0) fullShare m ∗ owns (c : Thread nD τ) (Memref.whole cc1_scratch1) fullShare x ∗ owns (c : Thread nD τ) (Memref.whole cc1_scratch2) fullShare s ∗ owns (c : Thread nD τ) (Memref.whole cc1_scratch3) fullShare r ∗ owns (c : Thread nD τ) (Memref.whole cc1_scratch4) fullShare a ∗ owns (c : Thread nD τ) (Memref.whole cc1_scratch5) fullShare b) ∗ rest1 c)

/-- The region's proof data, from the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => res1 V c (t.val - 10)
  Φ n := Phi1 V c n.val
  q _ := fullShare
  owed _ := 0

theorem dat1_A (c : Dev nD) (w : Fin cfg1.W) : (dat1 V c).A w = V c (Pipeline.arrRef spec1 w) := rfl
theorem dat1_after0 (c : Dev nD) (t : Fin cfg1.N) : (dat1 V c).after 0 t = iblk1 V c 0 t := rfl
theorem dat1_after1 (c : Dev nD) (t : Fin cfg1.N) : (dat1 V c).after 1 t = iblk1 V c 1 t := rfl
theorem dat1_after2 (c : Dev nD) (t : Fin cfg1.N) : (dat1 V c).after 2 t = iblk1 V c 2 t := rfl
theorem dat1_after3 (c : Dev nD) (t : Fin cfg1.N) : (dat1 V c).after 3 t = iblk1 V c 3 t := rfl
theorem dat1_after4 (c : Dev nD) (t : Fin cfg1.N) : (dat1 V c).after 4 t = iblk1 V c 4 t := rfl
theorem dat1_after5 (c : Dev nD) (t : Fin cfg1.N) : (dat1 V c).after 5 t = iblk1 V c 5 t := rfl
theorem dat1_after6 (c : Dev nD) (t : Fin cfg1.N) : (dat1 V c).after 6 t = iblk1 V c 6 t := rfl
theorem dat1_after7 (c : Dev nD) (t : Fin cfg1.N) : (dat1 V c).after 7 t = res1 V c (t.val - 10) := rfl

/-! Every input's staging buffer holds its window's block when the body runs. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [dat1_after0]; unfold Dat.blockOf iblk1; rw [dat1_A]; try rfl) t d).trans
    (by unfold Dat.fetched Dat.blockOf iblk1; rw [dat1_A]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [dat1_after1]; unfold Dat.blockOf iblk1; rw [dat1_A]; try rfl) t d).trans
    (by unfold Dat.fetched Dat.blockOf iblk1; rw [dat1_A]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [dat1_after2]; unfold Dat.blockOf iblk1; rw [dat1_A]; try rfl) t d).trans
    (by unfold Dat.fetched Dat.blockOf iblk1; rw [dat1_A]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [dat1_after3]; unfold Dat.blockOf iblk1; rw [dat1_A]; try rfl) t d).trans
    (by unfold Dat.fetched Dat.blockOf iblk1; rw [dat1_A]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [dat1_after4]; unfold Dat.blockOf iblk1; rw [dat1_A]; try rfl) t d).trans
    (by unfold Dat.fetched Dat.blockOf iblk1; rw [dat1_A]; try rfl)

theorem before1_5 (c : Dev nD) (t : Fin cfg1.N) (d) : (dat1 V c).before 5 t d = iblk1 V c 5 t :=
  ((dat1 V c).before_in_eq_fetched 5 rfl (fun _ => rfl) (fun _ _ _ => rfl)
    (fun t => by rw [dat1_after5]; unfold Dat.blockOf iblk1; rw [dat1_A]; try rfl) t d).trans
    (by unfold Dat.fetched Dat.blockOf iblk1; rw [dat1_A]; try rfl)

theorem before1_6 (c : Dev nD) (t : Fin cfg1.N) (d) : (dat1 V c).before 6 t d = iblk1 V c 6 t :=
  ((dat1 V c).before_in_eq_fetched 6 rfl (fun _ => rfl) (fun _ _ _ => rfl)
    (fun t => by rw [dat1_after6]; unfold Dat.blockOf iblk1; rw [dat1_A]; try rfl) t d).trans
    (by unfold Dat.fetched Dat.blockOf iblk1; rw [dat1_A]; try rfl)

/-! The result's window is idle at the first ten points, where its buffer is handed back as found. -/

theorem idle7_early (t : Fin cfg1.N) (h : t.val < 10) : cfg1.idle 7 (cfg1.grid.coords t) = true := by
  have h' : ¬k1_cond4 (grid1.coords t) = 1#1 := fun e => by have := (cond4_iff t).mp e; omega
  show (!(k1_cond4 (grid1.coords t) == 1#1)) = true
  rw [beq_eq_false_iff_ne.mpr h']; rfl

theorem idle7_late (t : Fin cfg1.N) (h : 10 ≤ t.val) : cfg1.idle 7 (cfg1.grid.coords t) = false := by
  show (!(k1_cond4 (grid1.coords t) == 1#1)) = false
  rw [beq_iff_eq.mpr ((cond4_iff t).mpr h)]; rfl

theorem flush7 : ∀ t : Fin cfg1.N, (cfg1.win 7).flush t = true ↔ 10 ≤ t.val := by decide +kernel

/-- What the body leaves in the result's buffer at `t`, as the pipeline asks for it. -/
def left7 (c : Dev nD) (t : Fin cfg1.N) : sProp 𝕄 :=
  match cfg1.idle 7 (cfg1.grid.coords t) with
  | true =>
    match (cfg1.win 7).flush t with
    | false => iprop(∃ d, owns (c : Thread nD τ) (st1_7 t) fullShare ((dat1 V c).before 7 t d))
    | true => owns (c : Thread nD τ) (st1_7 t) fullShare ((dat1 V c).after 7 t)
  | false => owns (c : Thread nD τ) (st1_7 t) fullShare ((dat1 V c).after 7 t)

theorem left7_early (c : Dev nD) (t : Fin cfg1.N) (h : t.val < 10) :
    left7 V c t = iprop(∃ d, owns (c : Thread nD τ) (st1_7 t) fullShare ((dat1 V c).before 7 t d)) := by
  unfold left7
  rw [idle7_early t h, show (cfg1.win 7).flush t = false from Bool.eq_false_iff.mpr fun e => by have := (flush7 t).mp e; omega]

theorem left7_late (c : Dev nD) (t : Fin cfg1.N) (h : 10 ≤ t.val) :
    left7 V c t = owns (c : Thread nD τ) (st1_7 t) fullShare (res1 V c (t.val - 10)) := by
  unfold left7
  rw [idle7_late t h, dat1_after7]

theorem iblk1_at0 (c : Dev nD) (t : Fin cfg1.N) (n : ℕ) (h : t.val = n) : iblk1 V c 0 t = iblk1 V c 0 (pt1 n) := by
  rw [← pt1_val t, h]
theorem iblk1_at1 (c : Dev nD) (t : Fin cfg1.N) (n : ℕ) (h : t.val = n) : iblk1 V c 1 t = iblk1 V c 1 (pt1 n) := by
  rw [← pt1_val t, h]
theorem iblk1_at2 (c : Dev nD) (t : Fin cfg1.N) (n : ℕ) (h : t.val = n) : iblk1 V c 2 t = iblk1 V c 2 (pt1 n) := by
  rw [← pt1_val t, h]
theorem iblk1_at3 (c : Dev nD) (t : Fin cfg1.N) (n : ℕ) (h : t.val = n) : iblk1 V c 3 t = iblk1 V c 3 (pt1 n) := by
  rw [← pt1_val t, h]
theorem iblk1_at4 (c : Dev nD) (t : Fin cfg1.N) (n : ℕ) (h : t.val = n) : iblk1 V c 4 t = iblk1 V c 4 (pt1 n) := by
  rw [← pt1_val t, h]
theorem iblk1_at5 (c : Dev nD) (t : Fin cfg1.N) (n : ℕ) (h : t.val = n) : iblk1 V c 5 t = iblk1 V c 5 (pt1 n) := by
  rw [← pt1_val t, h]

theorem defs₀_row1 (t : Fin cfg1.N) :
    (defs₀ (F := F)) .tc cfg1.body (cfg1.bodyArgs t (cfg1.slots t)) = bodyAt1 t := by
  unfold defs₀; rw [Defs.onTc_tc]

/-! The invariant at each kind of point. -/

theorem Inv1.first (c : Dev nD) (t : Fin cfg1.N) (hz : t.val = 0) (x : Vec F S10000x128 .f32) (a b : Vec F S1x128 .f32) :
    Inv1 V c (t.val + 1) (mat1 V c) (VecWindow.put x (k1_off1 (grid1.coords t)) S1000x128.size (prod1 V c t.val))
      (k1_pay6 (codeBlk V c t.val) (mat1 V c) k1_pay2) (k1_pay7 (codeBlk V c t.val) (mat1 V c) k1_pay3) a b := by
  refine ⟨fun _ => rfl, fun _ => ?_, fun _ => ?_, fun j hj hlt => ?_, fun h => by omega, fun h => by omega⟩
  · rw [hz]; rfl
  · rw [hz]; rfl
  · obtain rfl : j = t.val := by omega
    rw [off1_eq t (by omega)]
    exact VecWindow.window_put_same _ _ _ _ _

theorem Inv1.more (c : Dev nD) (t : Fin cfg1.N) (hz : t.val ≠ 0) (ht : t.val < 10) {m : Vec F S10000x128 .bf16} {x : Vec F S10000x128 .f32}
    {s r a b : Vec F S1x128 .f32} (h : Inv1 V c t.val m x s r a b) :
    Inv1 V c (t.val + 1) (mat1 V c) (VecWindow.put x (k1_off1 (grid1.coords t)) S1000x128.size (prod1 V c t.val))
      (k1_pay6 (codeBlk V c t.val) (mat1 V c) s) (k1_pay7 (codeBlk V c t.val) (mat1 V c) r) a b := by
  refine ⟨fun _ => rfl, fun _ => ?_, fun _ => ?_, fun j hj hlt => ?_, fun h => by omega, fun h => by omega⟩
  · rw [h.sum hz, show min t.val 10 = t.val by omega, show min (t.val + 1) 10 = t.val + 1 by omega]; rfl
  · rw [h.sq hz, show min t.val 10 = t.val by omega, show min (t.val + 1) 10 = t.val + 1 by omega]; rfl
  · rw [off1_eq t ht]
    by_cases hjt : j = t.val
    · subst hjt
      exact VecWindow.window_put_same _ _ _ _ _
    · rw [VecWindow.window_put_of_disjoint x ![1000 * t.val, 0] S1000x128.size ![1000 * j, 0] S1000x128.size (rows_inb j hj) _ 0
        (.inl (show 1000 * j + 1000 ≤ 1000 * t.val by omega))]
      exact h.rows j hj (by omega)

theorem Inv1.half (c : Dev nD) (t : Fin cfg1.N) (ht : t.val = 10) {m : Vec F S10000x128 .bf16} {x : Vec F S10000x128 .f32}
    {s r a b : Vec F S1x128 .f32} (h : Inv1 V c t.val m x s r a b) : Inv1 V c (t.val + 1) m x s r (fac1 V c) (shift1 V c) := by
  refine ⟨fun _ => h.mat (by omega), fun _ => ?_, fun _ => ?_, fun j hj _ => h.rows j hj (by omega), fun _ => rfl, fun _ => rfl⟩
  · rw [h.sum (by omega), show min t.val 10 = min (t.val + 1) 10 by omega]
  · rw [h.sq (by omega), show min t.val 10 = min (t.val + 1) 10 by omega]

theorem Inv1.last (c : Dev nD) (t : Fin cfg1.N) (ht : 10 < t.val) {m : Vec F S10000x128 .bf16} {x : Vec F S10000x128 .f32}
    {s r a b : Vec F S1x128 .f32} (h : Inv1 V c t.val m x s r a b) : Inv1 V c (t.val + 1) m x s r a b := by
  refine ⟨fun _ => h.mat (by omega), fun _ => ?_, fun _ => ?_, fun j hj _ => h.rows j hj (by omega), fun _ => h.fac ht, fun _ => h.shift ht⟩
  · rw [h.sum (by omega), show min t.val 10 = min (t.val + 1) 10 by omega]
  · rw [h.sq (by omega), show min t.val 10 = min (t.val + 1) 10 by omega]

theorem window_congr {s : Shape} {α : Type} (x : s.Idx → α) {off off' size : Fin s.rank → ℕ} (h : off = off') (inb : ∀ a, off a + size a ≤ s.size a)
    (inb' : ∀ a, off' a + size a ≤ s.size a) : VecWindow.window x off size inb = VecWindow.window x off' size inb' := by
  subst h; rfl

theorem Inv1.block {c : Dev nD} {t : Fin cfg1.N} (ht : 10 ≤ t.val) {m : Vec F S10000x128 .bf16} {x : Vec F S10000x128 .f32}
    {s r a b : Vec F S1x128 .f32} (h : Inv1 V c t.val m x s r a b) (inb : ∀ a, k1_off2 (grid1.coords t) a + S1000x128.size a ≤ S10000x128.size a) :
    VecWindow.window x (k1_off2 (grid1.coords t)) S1000x128.size inb = prod1 V c (t.val - 10) := by
  have hN : t.val < 20 := lt_of_lt_of_eq t.isLt (show cfg1.N = 20 from N_1)
  rw [← h.rows (t.val - 10) (by omega) (by omega)]
  exact (window_congr x (off2_eq t ht) inb _)

/-- The body at every point, from what the windows' buffers hold before it to what they hold after it. -/
theorem body_obligation1 (c : Dev nD) : BodyObligation (dat1 (F := F) V c) (defs₀ (F := F)) Variants.none () Set.univ := fun t => by
  rw [bigSep_W1, bigSep_W1, defs₀_row1]
  show iprop((dat1 V c).Φ t.castSucc ∗ (dat1 V c).owesAt () t.castSucc
      ∗ (∃ d, owns (c : Thread nD τ) (st1_0 t) fullShare ((dat1 V c).before 0 t d)) ∗ (∃ d, owns (c : Thread nD τ) (st1_1 t) fullShare ((dat1 V c).before 1 t d)) ∗ (∃ d, owns (c : Thread nD τ) (st1_2 t) fullShare ((dat1 V c).before 2 t d)) ∗ (∃ d, owns (c : Thread nD τ) (st1_3 t) fullShare ((dat1 V c).before 3 t d)) ∗ (∃ d, owns (c : Thread nD τ) (st1_4 t) fullShare ((dat1 V c).before 4 t d)) ∗ (∃ d, owns (c : Thread nD τ) (st1_5 t) fullShare ((dat1 V c).before 5 t d)) ∗ (∃ d, owns (c : Thread nD τ) (st1_6 t) fullShare ((dat1 V c).before 6 t d)) ∗ (∃ d, owns (c : Thread nD τ) (st1_7 t) fullShare ((dat1 V c).before 7 t d))) ⊢
    wp frame (wpE (defs₀ (F := F)) Variants.none c none) Set.univ (bodyAt1 t) fun _ =>
      iprop((dat1 V c).Φ t.succ ∗ (dat1 V c).owesAt () t.castSucc
      ∗ owns (c : Thread nD τ) (st1_0 t) fullShare (iblk1 V c 0 t) ∗ owns (c : Thread nD τ) (st1_1 t) fullShare (iblk1 V c 1 t) ∗ owns (c : Thread nD τ) (st1_2 t) fullShare (iblk1 V c 2 t) ∗ owns (c : Thread nD τ) (st1_3 t) fullShare (iblk1 V c 3 t) ∗ owns (c : Thread nD τ) (st1_4 t) fullShare (iblk1 V c 4 t) ∗ owns (c : Thread nD τ) (st1_5 t) fullShare (iblk1 V c 5 t) ∗ owns (c : Thread nD τ) (st1_6 t) fullShare (iblk1 V c 6 t) ∗ left7 V c t)
  rw [show (dat1 V c).Φ t.castSucc = Phi1 V c t.val from rfl, show (dat1 V c).Φ t.succ = Phi1 V c (t.val + 1) from rfl]
  simp only [before1_0, before1_1, before1_2, before1_3, before1_4, before1_5, before1_6]
  have hN : t.val < 20 := lt_of_lt_of_eq t.isLt (show cfg1.N = 20 from N_1)
  have hq : iblk1 V c 6 t = codeBlk V c t.val := by unfold codeBlk; rw [pt1_val]
  unfold Phi1
  by_cases h10 : t.val < 10
  · rw [left7_early V c t h10]
    have c2 := (cond2_iff t).mpr h10
    have c3 : ¬half1 (grid1.coords t) := fun e => by have := (half1_iff t).mp e; omega
    have c4 : ¬k1_cond4 (grid1.coords t) = 1#1 := fun e => by have := (cond4_iff t).mp e; omega
    by_cases hz : t.val = 0
    · have c1 := (first1_iff t).mpr hz
      rw [iblk1_at0 V c t 0 hz, iblk1_at1 V c t 0 hz, iblk1_at2 V c t 0 hz, iblk1_at3 V c t 0 hz, hq]
      iintro ⟨⟨⟨%m, %x, %s, %r, %a, %b, %hI, S0, S1, S2, S3, S4, S5⟩, Hr⟩, Ho, ⟨%d0, H0⟩, ⟨%d1, H1⟩, ⟨%d2, H2⟩, ⟨%d3, H3⟩, ⟨%d4, H4⟩, ⟨%d5, H5⟩, ⟨%d6, H6⟩, H7⟩
      iapply (body1_first c (grid1.coords t) _ _ _ _ _ _ _ _ (st1_4 t) (hstage1_4 _) (st1_5 t) (hstage1_5 _) _ _ (st1_7 t) (hstage1_7 _) _ _ _ _ _ _ _ _ (Memref.whole cc1_scratch4) (Memref.isWhole_whole _) (Memref.whole cc1_scratch5) (Memref.isWhole_whole _) c1 c2 c3 c4 (iblk1 V c 0 (pt1 0)) (iblk1 V c 1 (pt1 0)) (iblk1 V c 2 (pt1 0)) (iblk1 V c 3 (pt1 0)) (codeBlk V c t.val) x Set.univ _)
      isplitl [H0]; · iexact H0
      isplitl [H1]; · iexact H1
      isplitl [H2]; · iexact H2
      isplitl [H3]; · iexact H3
      isplitl [H6]; · iexact H6
      isplitl [S0]; · iexists _; iexact S0
      isplitl [S1]; · iexact S1
      isplitl [S2]; · iexists _; iexact S2
      isplitl [S3]; · iexists _; iexact S3
      iintro ⟨H0, H1, H2, H3, H6, S0, S1, S2, S3⟩
      isplitl [S0 S1 S2 S3 S4 S5 Hr]
      · isplitl [S0 S1 S2 S3 S4 S5]
        · iexists _, _, _, _, _, _; isplitr; · ipureintro; exact Inv1.first V c t hz x a b
          isplitl [S0]; · iexact S0
          isplitl [S1]; · iexact S1
          isplitl [S2]; · iexact S2
          isplitl [S3]; · iexact S3
          isplitl [S4]; · iexact S4
          iexact S5
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have c1 : ¬first1 (grid1.coords t) := fun e => hz ((first1_iff t).mp e)
      rw [hq]
      iintro ⟨⟨⟨%m, %x, %s, %r, %a, %b, %hI, S0, S1, S2, S3, S4, S5⟩, Hr⟩, Ho, ⟨%d0, H0⟩, ⟨%d1, H1⟩, ⟨%d2, H2⟩, ⟨%d3, H3⟩, ⟨%d4, H4⟩, ⟨%d5, H5⟩, ⟨%d6, H6⟩, H7⟩
      obtain rfl := hI.mat hz
      iapply (body1_more c (grid1.coords t) (st1_0 t) (hstage1_0 _) (st1_1 t) (hstage1_1 _) (st1_2 t) (hstage1_2 _) (st1_3 t) (hstage1_3 _) (st1_4 t) (hstage1_4 _) (st1_5 t) (hstage1_5 _) _ _ (st1_7 t) (hstage1_7 _) _ _ _ _ _ _ _ _ (Memref.whole cc1_scratch4) (Memref.isWhole_whole _) (Memref.whole cc1_scratch5) (Memref.isWhole_whole _) c1 c2 c3 c4 (codeBlk V c t.val) (mat1 V c) x s r Set.univ _)
      isplitl [H6]; · iexact H6
      isplitl [S0]; · iexact S0
      isplitl [S1]; · iexact S1
      isplitl [S2]; · iexact S2
      isplitl [S3]; · iexact S3
      iintro ⟨H6, S0, S1, S2, S3⟩
      isplitl [S0 S1 S2 S3 S4 S5 Hr]
      · isplitl [S0 S1 S2 S3 S4 S5]
        · iexists _, _, _, _, _, _; isplitr; · ipureintro; exact Inv1.more V c t hz h10 hI
          isplitl [S0]; · iexact S0
          isplitl [S1]; · iexact S1
          isplitl [S2]; · iexact S2
          isplitl [S3]; · iexact S3
          isplitl [S4]; · iexact S4
          iexact S5
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have h10' : 10 ≤ t.val := by omega
    rw [left7_late V c t h10']
    have c1 : ¬first1 (grid1.coords t) := fun e => by have := (first1_iff t).mp e; omega
    have c2 : ¬k1_cond2 (grid1.coords t) = 1#1 := fun e => h10 ((cond2_iff t).mp e)
    have c4 := (cond4_iff t).mpr h10'
    by_cases hh : t.val = 10
    · have c3 := (half1_iff t).mpr hh
      rw [iblk1_at4 V c t 10 hh, iblk1_at5 V c t 10 hh]
      iintro ⟨⟨⟨%m, %x, %s, %r, %a, %b, %hI, S0, S1, S2, S3, S4, S5⟩, Hr⟩, Ho, ⟨%d0, H0⟩, ⟨%d1, H1⟩, ⟨%d2, H2⟩, ⟨%d3, H3⟩, ⟨%d4, H4⟩, ⟨%d5, H5⟩, ⟨%d6, H6⟩, H7⟩
      icases H7 with ⟨%d7, H7⟩
      have hs : s = sumAcc1 V c 10 := by rw [hI.sum (by omega), hh]; rfl
      have hr : r = sqAcc1 V c 10 := by rw [hI.sq (by omega), hh]; rfl
      iapply (body1_half c (grid1.coords t) (st1_0 t) (hstage1_0 _) (st1_1 t) (hstage1_1 _) (st1_2 t) (hstage1_2 _) (st1_3 t) (hstage1_3 _) _ _ _ _ (st1_6 t) (hstage1_6 _) _ _ (Memref.whole cc1_scratch0) (Memref.isWhole_whole _) _ _ _ _ _ _ _ _ _ _ c1 c2 c3 c4 (iblk1 V c 4 (pt1 10)) (iblk1 V c 5 (pt1 10)) x s r Set.univ _)
      isplitl [H4]; · iexact H4
      isplitl [H5]; · iexact H5
      isplitl [H7]; · iexists _; iexact H7
      isplitl [S1]; · iexact S1
      isplitl [S2]; · iexact S2
      isplitl [S3]; · iexact S3
      isplitl [S4]; · iexists _; iexact S4
      isplitl [S5]; · iexists _; iexact S5
      iintro ⟨H4, H5, H7, S1, S2, S3, S4, S5⟩
      rw [hI.block V h10' (k1_off2_inb (grid1.coords t) c4)]
      subst hs; subst hr
      isplitl [S0 S1 S2 S3 S4 S5 Hr]
      · isplitl [S0 S1 S2 S3 S4 S5]
        · iexists _, _, _, _, _, _; isplitr; · ipureintro; exact Inv1.half V c t hh hI
          isplitl [S0]; · iexact S0
          isplitl [S1]; · iexact S1
          isplitl [S2]; · iexact S2
          isplitl [S3]; · iexact S3
          isplitl [S4]; · iexact S4
          iexact S5
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have c3 : ¬half1 (grid1.coords t) := fun e => hh ((half1_iff t).mp e)
      iintro ⟨⟨⟨%m, %x, %s, %r, %a, %b, %hI, S0, S1, S2, S3, S4, S5⟩, Hr⟩, Ho, ⟨%d0, H0⟩, ⟨%d1, H1⟩, ⟨%d2, H2⟩, ⟨%d3, H3⟩, ⟨%d4, H4⟩, ⟨%d5, H5⟩, ⟨%d6, H6⟩, H7⟩
      icases H7 with ⟨%d7, H7⟩
      obtain rfl := hI.fac (by omega)
      obtain rfl := hI.shift (by omega)
      iapply (body1_last c (grid1.coords t) (st1_0 t) (hstage1_0 _) (st1_1 t) (hstage1_1 _) (st1_2 t) (hstage1_2 _) (st1_3 t) (hstage1_3 _) (st1_4 t) (hstage1_4 _) (st1_5 t) (hstage1_5 _) (st1_6 t) (hstage1_6 _) _ _ (Memref.whole cc1_scratch0) (Memref.isWhole_whole _) _ _ (Memref.whole cc1_scratch2) (Memref.isWhole_whole _) (Memref.whole cc1_scratch3) (Memref.isWhole_whole _) _ _ _ _ c1 c2 c3 c4 x (fac1 V c) (shift1 V c) Set.univ _)
      isplitl [H7]; · iexists _; iexact H7
      isplitl [S1]; · iexact S1
      isplitl [S4]; · iexact S4
      isplitl [S5]; · iexact S5
      iintro ⟨H7, S1, S4, S5⟩
      rw [hI.block V h10' (k1_off2_inb (grid1.coords t) c4)]
      isplitl [S0 S1 S2 S3 S4 S5 Hr]
      · isplitl [S0 S1 S2 S3 S4 S5]
        · iexists _, _, _, _, _, _; isplitr; · ipureintro; exact Inv1.last V c t (by omega) hI
          isplitl [S0]; · iexact S0
          isplitl [S1]; · iexact S1
          isplitl [S2]; · iexact S2
          isplitl [S3]; · iexact S3
          isplitl [S4]; · iexact S4
          iexact S5
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

end Cert.Proof.OfKernelIdeal

end
-- ==== Proof.KernelIdeal.Chain.lean ====
/-
  The two regions of the program over the contents of every array: the first from the launch memory, the host operations
  between, the second from what those leave.
-/
module

public import proofs.«01_k».proof.Proof.KernelIdeal.Region1st
public import proofs.«01_k».proof.Proof.KernelIdeal.Region2nd
public import Idealize.ShloMosaic.Lib.Pipeline.RegionsLoop

@[expose] public section

set_option maxRecDepth 16384

noncomputable section

namespace Cert.Proof.OfKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the library's. -/
abbrev EP : Emb (UR sig nD τ) (MT nD τ sig Unit (Elt F) ℕ (UR sig nD τ) ℕ) := emb₁

/-- No core owes another anything: no level is assigned. -/
abbrev lvSet : GSem nD τ sig → Finset Unit := fun _ => ∅
abbrev lvOf : GSem nD τ sig → Unit → ℕ := fun _ _ => 0

/-! The invariants at the regions' two ends are made of, and give back, the scoped buffers. -/

theorem Phi0_start (V : (c : Dev nD) → Valuation τ sig (Elt F)) (c : Dev nD) (A B : sProp 𝕄) :
    iprop(A ∗ B ∗ Pipeline.scopedRest (Ix := Unit) (Name := ℕ) (U := UR sig nD τ) (Lvl := ℕ) (Val := Elt F) spec0 c) ⊢ Phi0 V c 0 := by
  rw [scopedRest0_eq]
  unfold Phi0 rest0
  iintro ⟨-, -, ⟨%f, H⟩, Hr⟩
  isplitl [H]
  · iexists f; isplitr; · ipureintro; exact fun h => absurd rfl h
    rw [owns_whole]; iexact H
  iexact Hr

theorem Phi0_end (V : (c : Dev nD) → Valuation τ sig (Elt F)) (c : Dev nD) (n : ℕ) :
    Phi0 V c n ⊢ iprop(BI.emp ∗ BI.emp ∗ Pipeline.scopedRest (Ix := Unit) (Name := ℕ) (U := UR sig nD τ) (Lvl := ℕ) (Val := Elt F) spec0 c) := by
  rw [scopedRest0_eq]
  unfold Phi0 rest0
  simp only [owns_whole]
  iintro ⟨⟨%s, -, H⟩, Hr⟩
  isplitr; · iempintro
  isplitr; · iempintro
  isplitl [H]
  · iexists _; iexact H
  iexact Hr

theorem Phi1_start (V : (c : Dev nD) → Valuation τ sig (Elt F)) (c : Dev nD) (A B : sProp 𝕄) :
    iprop(A ∗ B ∗ Pipeline.scopedRest (Ix := Unit) (Name := ℕ) (U := UR sig nD τ) (Lvl := ℕ) (Val := Elt F) spec1 c) ⊢ Phi1 V c 0 := by
  rw [scopedRest1_eq]
  unfold Phi1 rest1
  simp only [owns_whole]
  iintro ⟨-, -, R0, R1, R2, R3, R4, R5, R6, R7, R8, R9, R10, ⟨%m, S0⟩, ⟨%x, S1⟩, ⟨%s, S2⟩, ⟨%r, S3⟩, ⟨%a, S4⟩, ⟨%b, S5⟩⟩
  isplitl [S0 S1 S2 S3 S4 S5]
  · iexists m, x, s, r, a, b; isplitr
    · ipureintro
      exact ⟨fun h => absurd rfl h, fun h => absurd rfl h, fun h => absurd rfl h, fun j _ h => absurd h (Nat.not_lt_zero j), fun h => absurd h (by decide), fun h => absurd h (by decide)⟩
    isplitl [S0]; · iexact S0
    isplitl [S1]; · iexact S1
    isplitl [S2]; · iexact S2
    isplitl [S3]; · iexact S3
    isplitl [S4]; · iexact S4
    iexact S5
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact R10

theorem Phi1_end (V : (c : Dev nD) → Valuation τ sig (Elt F)) (c : Dev nD) (n : ℕ) :
    Phi1 V c n ⊢ iprop(BI.emp ∗ BI.emp ∗ Pipeline.scopedRest (Ix := Unit) (Name := ℕ) (U := UR sig nD τ) (Lvl := ℕ) (Val := Elt F) spec1 c) := by
  rw [scopedRest1_eq]
  unfold Phi1 rest1
  simp only [owns_whole]
  iintro ⟨⟨%m, %x, %s, %r, %a, %b, -, S0, S1, S2, S3, S4, S5⟩, R0, R1, R2, R3, R4, R5, R6, R7, R8, R9, R10⟩
  isplitr; · iempintro
  isplitr; · iempintro
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [S0]; · iexists _; iexact S0
  isplitl [S1]; · iexists _; iexact S1
  isplitl [S2]; · iexists _; iexact S2
  isplitl [S3]; · iexists _; iexact S3
  isplitl [S4]; · iexists _; iexact S4
  iexists _; iexact S5

/-- What the first region leaves: the launch memory with its four results written. -/
def left0 (c : Dev nD) : Valuation τ sig (Elt F) :=
  Function.update (Function.update (Function.update (Function.update (V0 m c) main_v0_0 ((dat0 (V0 m) c).arrAt 3 cfg0.N))
    main_v0_1 ((dat0 (V0 m) c).arrAt 4 cfg0.N)) main_v0_2 ((dat0 (V0 m) c).arrAt 5 cfg0.N)) main_v0_3 ((dat0 (V0 m) c).arrAt 6 cfg0.N)

/-- What the second region is entered with: that, after the host operations between. -/
def mid (c : Dev nD) : Valuation τ sig (Elt F) := StableHlo.after hostOps1 (left0 m c)

/-- What the regions leave in their results' arrays. -/
def outs : Outs (F := F) := fun n r c => if n = 1 then left0 m c r else Function.update (mid m c) main_v23 ((dat1 (mid m) c).arrAt 7 cfg1.N) r

theorem left0_0 (c : Dev nD) : left0 m c main_v0_0 = (dat0 (V0 m) c).arrAt 3 cfg0.N := by
  unfold left0
  rw [Function.update_of_ne (by decide), Function.update_of_ne (by decide), Function.update_of_ne (by decide), Function.update_self]
theorem left0_1 (c : Dev nD) : left0 m c main_v0_1 = (dat0 (V0 m) c).arrAt 4 cfg0.N := by
  unfold left0
  rw [Function.update_of_ne (by decide), Function.update_of_ne (by decide), Function.update_self]
theorem left0_2 (c : Dev nD) : left0 m c main_v0_2 = (dat0 (V0 m) c).arrAt 5 cfg0.N := by
  unfold left0
  rw [Function.update_of_ne (by decide), Function.update_self]
theorem left0_3 (c : Dev nD) : left0 m c main_v0_3 = (dat0 (V0 m) c).arrAt 6 cfg0.N := by
  unfold left0
  rw [Function.update_self]
theorem left0_ne (c : Dev nD) {r : Ref sig .tc} (h : r ∉ ([main_v0_0, main_v0_1, main_v0_2, main_v0_3] : List (Ref sig .tc))) : left0 m c r = V0 m c r := by
  have h' : V1 m (fun n r c => left0 m c r) c = left0 m c := by
    unfold V1; simp only [left0_0, left0_1, left0_2, left0_3]; rfl
  rw [← h']; exact V1_of m _ c r h

theorem V1_outs (c : Dev nD) : V1 m (outs m) c = left0 m c := by
  unfold V1
  rw [show outs m 1 main_v0_0 c = left0 m c main_v0_0 from if_pos rfl, show outs m 1 main_v0_1 c = left0 m c main_v0_1 from if_pos rfl,
    show outs m 1 main_v0_2 c = left0 m c main_v0_2 from if_pos rfl, show outs m 1 main_v0_3 c = left0 m c main_v0_3 from if_pos rfl,
    left0_0, left0_1, left0_2, left0_3]
  rfl

theorem V2_outs (c : Dev nD) : V2 m (outs m) c = mid m c := by
  unfold V2 mid; rw [V1_outs]

/-- What the program leaves. -/
def fin (c : Dev nD) : Valuation τ sig (Elt F) := Function.update (mid m c) main_v23 ((dat1 (mid m) c).arrAt 7 cfg1.N)

theorem fin_v23 (c : Dev nD) : fin m c main_v23 = (dat1 (mid m) c).arrAt 7 cfg1.N := by
  unfold fin; rw [Function.update_self]
theorem fin_ne (c : Dev nD) {r : Ref sig .tc} (h : r ∉ ([main_v23] : List (Ref sig .tc))) : fin m c r = mid m c r := by
  unfold fin
  exact Function.update_of_ne (fun e => h (by rw [Proc.devRef_injective _ e]; exact List.mem_singleton.mpr rfl)) _ _

theorem V3_outs (c : Dev nD) : V3 m (outs m) c = fin m c := by
  unfold V3
  rw [V2_outs, show outs m 3 main_v23 c = fin m c main_v23 from if_neg (by decide), fin_v23]
  rfl

/-- The two regions' proof data. -/
def pdats : (p : Fin 2) → (c : Dev nD) → Dat τ (Elt F) Unit ℕ (UR sig nD τ) ℕ (cfgs p) c
  | ⟨0, _⟩ => fun c => dat0 (V0 m) c
  | ⟨1, _⟩ => fun c => dat1 (mid m) c

/-- What rides along beside the arrays: the core owes nothing. -/
def ride (c : Dev nD) : sProp 𝕄 := iprop(∃ W, owes (c : Thread nD τ) (0 : CellTallies nD τ sig Unit) W)

/-- Every array of core `c` held at `W`, and what rides along. -/
def stateAt (W : (c : Dev nD) → Valuation τ sig (Elt F)) (c : Dev nD) : sProp 𝕄 :=
  iprop(StableHlo.held (c : Thread nD τ) (Pipeline.ucRefs τ sig) (W c) ∗ ride c)

set_option maxHeartbeats 1000000 in
set_option backward.isDefEq.respectTransparency.types false in
/-- Region 0: entered with every array at `V0 m`, left with every array at `left0 m`. -/
def reg0 : Pipeline.RegionSeg (pcfgs (F := F)) adm (pdats m) () defs₀ Variants.none lvSet lvOf 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ lvSet lvOf 0 fun _ _ => rfl
  pre c := stateAt (V0 m) c
  post c := stateAt (left0 m) c
  X _ := BI.emp
  Y _ := BI.emp
  Z c := Pipeline.unscopedRest (Ix := Unit) (Name := ℕ) (U := UR sig nD τ) (Lvl := ℕ) spec0 c (fun b => V0 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V0 m c b) fun _ => rfl
    unfold stateAt ride
    rw [← Pipeline.unscopedBufs_held c (V0 m c)]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Phi0 (V0 m) c 0 from rfl]
    exact Phi0_start (V0 m) c _ _
  hout c := by
    rw [Pipeline.ownSems0_none, show (pdats m 0 c).Φ (Fin.last _) = Phi0 (V0 m) c cfg0.N from rfl]
    exact Phi0_end (V0 m) c cfg0.N
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (fun b => V0 m c b) (fun b => left0 m c b) ((pdats m 0 c).arrAt · cfg0.N)
      (fun w => by
        fin_cases w
        · exact ((pdats m 0 c).arrAt_in 0 rfl _).trans (left0_ne m c (r := main_arg0) (by decide)).symm
        · exact ((pdats m 0 c).arrAt_in 1 rfl _).trans (left0_ne m c (r := main_arg2) (by decide)).symm
        · exact ((pdats m 0 c).arrAt_in 2 rfl _).trans (left0_ne m c (r := main_arg1) (by decide)).symm
        · exact (left0_0 m c).symm
        · exact (left0_1 m c).symm
        · exact (left0_2 m c).symm
        · exact (left0_3 m c).symm)
      (fun b hb => left0_ne m c fun h => hb (by
        simp only [List.mem_cons, List.not_mem_nil, _root_.or_false] at h
        rcases h with rfl | rfl | rfl | rfl
        · exact Finset.mem_image.mpr ⟨3, Finset.mem_univ _, rfl⟩
        · exact Finset.mem_image.mpr ⟨4, Finset.mem_univ _, rfl⟩
        · exact Finset.mem_image.mpr ⟨5, Finset.mem_univ _, rfl⟩
        · exact Finset.mem_image.mpr ⟨6, Finset.mem_univ _, rfl⟩))
    unfold stateAt ride
    rw [← Pipeline.unscopedBufs_held c (left0 m c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option maxHeartbeats 1000000 in
set_option backward.isDefEq.respectTransparency.types false in
/-- Region 1: entered with every array at `mid m`, left with every array at `fin m`. -/
def reg1 : Pipeline.RegionSeg (pcfgs (F := F)) adm (pdats m) () defs₀ Variants.none lvSet lvOf 1 where
  win := launch1.win.to₀
  block_pos := launch1.block_pos
  stage_whole := launch1.stage_whole
  K := PEmpty
  osem k := k.elim
  ho := Pipeline.OwnSemFacts.none _
  hbody c := (body_obligation1 (mid m) c).loose
  hwaits := Pipeline.hwaits_of_owed_zero _ _ _ _ lvSet lvOf 1 fun _ _ => rfl
  pre c := stateAt (mid m) c
  post c := stateAt (fin m) c
  X _ := BI.emp
  Y _ := BI.emp
  Z c := Pipeline.unscopedRest (Ix := Unit) (Name := ℕ) (U := UR sig nD τ) (Lvl := ℕ) spec1 c (fun b => mid m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => mid m c b) fun _ => rfl
    unfold stateAt ride
    rw [← Pipeline.unscopedBufs_held c (mid m c)]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Phi1 (mid m) c 0 from rfl]
    exact Phi1_start (mid m) c _ _
  hout c := by
    rw [Pipeline.ownSems0_none, show (pdats m 1 c).Φ (Fin.last _) = Phi1 (mid m) c cfg1.N from rfl]
    exact Phi1_end (mid m) c cfg1.N
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (fun b => mid m c b) (fun b => fin m c b) ((pdats m 1 c).arrAt · cfg1.N)
      (fun w => by
        fin_cases w
        · exact ((pdats m 1 c).arrAt_in 0 rfl _).trans (fin_ne m c (r := main_v0_0) (by decide)).symm
        · exact ((pdats m 1 c).arrAt_in 1 rfl _).trans (fin_ne m c (r := main_arg6) (by decide)).symm
        · exact ((pdats m 1 c).arrAt_in 2 rfl _).trans (fin_ne m c (r := main_v13) (by decide)).symm
        · exact ((pdats m 1 c).arrAt_in 3 rfl _).trans (fin_ne m c (r := main_v20) (by decide)).symm
        · exact ((pdats m 1 c).arrAt_in 4 rfl _).trans (fin_ne m c (r := main_v21) (by decide)).symm
        · exact ((pdats m 1 c).arrAt_in 5 rfl _).trans (fin_ne m c (r := main_v22) (by decide)).symm
        · exact ((pdats m 1 c).arrAt_in 6 rfl _).trans (fin_ne m c (r := main_v0_1) (by decide)).symm
        · exact (fin_v23 m c).symm)
      (fun b hb => fin_ne m c fun h => hb (by
        simp only [List.mem_cons, List.not_mem_nil, _root_.or_false] at h
        rcases h with rfl
        · exact Finset.mem_image.mpr ⟨7, Finset.mem_univ _, rfl⟩))
    unfold stateAt ride
    rw [← Pipeline.unscopedBufs_held c (fin m c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem reg0_pre (c : Dev nD) : (reg0 m).pre c = stateAt (V0 m) c := rfl
theorem reg0_post (c : Dev nD) : (reg0 m).post c = stateAt (left0 m) c := rfl
theorem reg1_pre (c : Dev nD) : (reg1 m).pre c = stateAt (mid m) c := rfl
theorem reg1_post (c : Dev nD) : (reg1 m).post c = stateAt (fin m) c := rfl

end Cert.Proof.OfKernelIdeal

end
-- ==== Proof.KernelIdeal.Run.lean ====
/-
  The whole program: the first pallas_call, the host operations between, the second pallas_call, chained. From any memory it
  terminates with the result's array at what the second region leaves there and every argument unchanged.
-/
module

public import proofs.«01_k».proof.Proof.KernelIdeal.Chain

@[expose] public section

set_option maxRecDepth 16384

noncomputable section

namespace Cert.Proof.OfKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 400000 in
theorem held_V0 (c : Dev nD) : iprop(StableHlo.held (c : Thread nD τ) (Pipeline.ucRefs τ sig) (V0 m c) ∗ ride c) ⊢ (reg0 m).pre c := by
  rw [reg0_pre]; exact .rfl
set_option maxHeartbeats 400000 in
theorem held_V1 (c : Dev nD) : (reg0 m).post c ⊢ iprop(StableHlo.held (c : Thread nD τ) (Pipeline.ucRefs τ sig) (V1 m (outs m) c) ∗ ride c) := by
  rw [reg0_post, V1_outs]; exact .rfl
set_option maxHeartbeats 400000 in
theorem held_V2 (c : Dev nD) : iprop(StableHlo.held (c : Thread nD τ) (Pipeline.ucRefs τ sig) (V2 m (outs m) c) ∗ ride c) ⊢ (reg1 m).pre c := by
  rw [reg1_pre, V2_outs]; exact .rfl
set_option maxHeartbeats 400000 in
theorem held_V3 (c : Dev nD) : (reg1 m).post c ⊢ iprop(StableHlo.held (c : Thread nD τ) (Pipeline.ucRefs τ sig) (V3 m (outs m) c) ∗ ride c) := by
  rw [reg1_post, V3_outs]; exact .rfl

/-- The launch deals a core its arrays at the launch memory, -/
theorem launch_state_one (c : Dev nD) : (iprop(unscopedBufs c (fun b => m ((c.tc : Thread nD τ).loc b)) ∗ unscopedSems0 c
      ∗ owes (c.tc : Thread nD τ) (0 : CellTallies nD τ sig Unit) ∅ ∗ Pipeline.launchCred (fun _ => (0 : CellTallies nD τ sig Unit)) c ∗ prngReg c (ρ c) ∗ BI.emp) : sProp 𝕄)
    ⊢ (iprop(StableHlo.held (c : Thread nD τ) (Pipeline.ucRefs τ sig) (V0 m c) ∗ ride c) : sProp 𝕄) := by
  rw [← Pipeline.unscopedBufs_held (Ix := Unit) (Name := ℕ) (U := UR sig nD τ) (Lvl := ℕ) c (V0 m c)]
  unfold ride
  show (iprop(unscopedBufs c (fun b => V0 m c b) ∗ unscopedSems0 c
      ∗ owes (c.tc : Thread nD τ) (0 : CellTallies nD τ sig Unit) ∅ ∗ Pipeline.launchCred (fun _ => (0 : CellTallies nD τ sig Unit)) c ∗ prngReg c (ρ c) ∗ BI.emp) : sProp 𝕄) ⊢ _
  iintro ⟨Hu, -, Ho, -⟩
  isplitl [Hu]; · iexact Hu
  iexists _; iexact Ho

/-- and so deals every core its own. -/
theorem launch_state : (bigSep Finset.univ fun c : Dev nD => iprop(unscopedBufs c (fun b => m ((c.tc : Thread nD τ).loc b)) ∗ unscopedSems0 c
      ∗ owes (c.tc : Thread nD τ) (0 : CellTallies nD τ sig Unit) ∅ ∗ Pipeline.launchCred (fun _ => (0 : CellTallies nD τ sig Unit)) c ∗ prngReg c (ρ c) ∗ BI.emp) : sProp 𝕄)
    ⊢ bigSep Finset.univ fun c : Dev nD => iprop(StableHlo.held (c : Thread nD τ) (Pipeline.ucRefs τ sig) (V0 m c) ∗ ride c) :=
  bigSep_mono fun c _ => launch_state_one m ρ c

set_option maxHeartbeats 1000000 in
/-- From any memory every run terminates, and every final state has the result's array at what the second region leaves
    there, every argument as it was and every semaphore at zero. -/
theorem run : θ_run defs (onTc (τ := τ) (main (F := F))) ⟨m, fun _ => 0, ρ⟩ (fun r => (∀ c : Dev nD,
      r.2.mem ((c.tc : Thread nD τ).loc main_v23) = (dat1 (mid m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine Pipeline.θ_run_regions_kit_dev_sems (pcfgs (F := F)) adm (pdats m) () cellOf_inj EP defs₀ Variants.none lvSet lvOf m ρ main
    (segs m (outs m) Variants.none lvSet lvOf (fun _ => ride) () (pdats m) (reg0 m) (reg1 m))
    (fun c Q => by
      rewrite [main_chain c, Seg.run_eq_chain,
        show (segs m (outs m) Variants.none lvSet lvOf (fun _ => ride) () (pdats m) (reg0 m) (reg1 m) c).map Seg.prog = [
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) (fun _ _ => rfl)
    (fun _ => BI.emp) (initOf (Pipeline.cells (Pipeline.pin (pcfgs (F := F)) (adm (F := F))) cellOf_inj) (Pipeline.launchToks (Pipeline.pin (pcfgs (F := F)) (adm (F := F))) cellOf_inj)) ?_
    (T₀ := fun c => iprop(StableHlo.held (c : Thread nD τ) (Pipeline.ucRefs τ sig) (V0 m c) ∗ ride c))
    (Tₙ := fun c => StableHlo.held (c : Thread nD τ) (Pipeline.ucRefs τ sig) (V3 m (outs m) c))
    (hch := fun c => ⟨held_V0 m c, held_V1 m c, held_V2 m c, (held_V3 m c).trans (sep_mono .rfl .rfl)⟩)
    (hinit := ?_) (QY := fun c s => s.mem ((c.tc : Thread nD τ).loc main_v23) = (dat1 (mid m) c).arrAt 7 cfg1.N ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h hz => ⟨h, funext fun g => hz g (.inr (regions_no_unscoped g.2))⟩)
  · iintro Hu
    imodintro
    rw [bigSep_emp_const, ← ownU_emb₁]
    isplitl [Hu]; · iexact Hu
    iempintro
  · iintro ⟨H, -⟩
    imodintro
    iapply (launch_state m ρ) $$ H
  · unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨(h (Proc.devRef .tc main_v23) (Finset.mem_filter.mpr ⟨StableHlo.devRef_mem_tcRefs main_v23, by decide⟩)).trans
          ((congrFun (V3_outs m c) _).trans (fin_v23 m c)),
        (h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c),
        (h (Proc.devRef .tc main_arg4) (Finset.mem_filter.mpr ⟨StableHlo.devRef_mem_tcRefs main_arg4, by decide⟩)).trans (V3_main_arg4 m (outs m) c),
        (h (Proc.devRef .tc main_arg5) (Finset.mem_filter.mpr ⟨StableHlo.devRef_mem_tcRefs main_arg5, by decide⟩)).trans (V3_main_arg5 m (outs m) c),
        (h (Proc.devRef .tc main_arg6) (Finset.mem_filter.mpr ⟨StableHlo.devRef_mem_tcRefs main_arg6, by decide⟩)).trans (V3_main_arg6 m (outs m) c),
        (h (Proc.devRef .tc main_arg7) (Finset.mem_filter.mpr ⟨StableHlo.devRef_mem_tcRefs main_arg7, by decide⟩)).trans (V3_main_arg7 m (outs m) c),
        (h (Proc.devRef .tc main_arg8) (Finset.mem_filter.mpr ⟨StableHlo.devRef_mem_tcRefs main_arg8, by decide⟩)).trans (V3_main_arg8 m (outs m) c),
        (h (Proc.devRef .tc main_arg9) (Finset.mem_filter.mpr ⟨StableHlo.devRef_mem_tcRefs main_arg9, by decide⟩)).trans (V3_main_arg9 m (outs m) c)⟩
    · iexact HSI

end Cert.Proof.OfKernelIdeal

end
-- ==== Proof.Frames.lean ====
/-
  What each of the three programs does to the machine besides its result: it terminates, leaves its arguments as they were
  and every semaphore at zero.
-/
module

public import proofs.«01_k».proof.Defs
public import proofs.«01_k».proof.Proof.Kernel.Run
public import proofs.«01_k».proof.Proof.KernelIdeal.Run
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

/-- The kernel at machine words terminates with its arguments unchanged and every semaphore at zero. -/
theorem frame_kernel : Cert.quiescent_Kernel := fun m ρ _ =>
  (θ_run Cert.Kernel.defs _ _).mono (fun _ h => ⟨fun c => (h.1 c).2, h.2⟩) (Cert.Proof.OfKernel.run (F := Bits) m ρ)

/-- The kernel at the extended reals terminates with its arguments unchanged and every semaphore at zero. -/
theorem frame_ideal : Cert.quiescent_KernelIdeal := fun m ρ _ =>
  (θ_run Cert.KernelIdeal.defs _ _).mono (fun _ h => ⟨fun c => (h.1 c).2, h.2⟩) (Cert.Proof.OfKernelIdeal.run (F := Ideal) m ρ)

/-- The reference at the extended reals terminates with its arguments unchanged; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Layer.lean ====
/-
  The mathematics of one batch-normalised layer over the reals: the mean and the biased variance of each column, the
  normalisation, and the two forms it is computed in. Nothing here mentions a program.
-/
module

public import Idealize.ShloMosaic.PureOps.Ideal.Laws

@[expose] public section

noncomputable section

namespace Cert.Proof.Layer

open Finset

variable {n k p : ℕ}

/-- The matrix product of `A` and `B`. -/
def prod (A : Fin n → Fin k → ℝ) (B : Fin k → Fin p → ℝ) (i : Fin n) (j : Fin p) : ℝ := ∑ l, A i l * B l j

/-- The sum of column `j`. -/
def colSum (H : Fin n → Fin p → ℝ) (j : Fin p) : ℝ := ∑ i, H i j

/-- The sum of the squares of column `j`. -/
def colSq (H : Fin n → Fin p → ℝ) (j : Fin p) : ℝ := ∑ i, H i j * H i j

/-- The mean of column `j`. -/
def mean (H : Fin n → Fin p → ℝ) (j : Fin p) : ℝ := colSum H j / n

/-- The biased variance of column `j`: the mean squared distance from the mean. -/
def var (H : Fin n → Fin p → ℝ) (j : Fin p) : ℝ := (∑ i, (H i j - mean H j) * (H i j - mean H j)) / n

/-- The normalisation of each column, scaled by `g` and shifted by `b`. -/
def bn (e : ℝ) (g b : Fin p → ℝ) (H : Fin n → Fin p → ℝ) (i : Fin n) (j : Fin p) : ℝ :=
  (H i j - mean H j) / Real.sqrt (var H j + e) * g j + b j

/-- The variance as the mean square less the square of the mean. -/
def var' (H : Fin n → Fin p → ℝ) (j : Fin p) : ℝ := colSq H j / n - mean H j * mean H j

/-- The factor each column is multiplied by when the normalisation is written as one multiplication and one addition. -/
def fac (e : ℝ) (g : Fin p → ℝ) (H : Fin n → Fin p → ℝ) (j : Fin p) : ℝ := g j * (Real.sqrt (var' H j + e))⁻¹

theorem var_nonneg (H : Fin n → Fin p → ℝ) (j : Fin p) : 0 ≤ var H j :=
  div_nonneg (sum_nonneg fun _ _ => mul_self_nonneg _) (Nat.cast_nonneg n)

/-- The two forms of the variance are equal. -/
theorem var_eq_var' (hn : n ≠ 0) (H : Fin n → Fin p → ℝ) (j : Fin p) : var H j = var' H j := by
  have hn' : (n : ℝ) ≠ 0 := by exact_mod_cast hn
  have h : ∑ i, (H i j - mean H j) * (H i j - mean H j)
      = colSq H j - 2 * mean H j * colSum H j + n * (mean H j * mean H j) := by
    unfold colSq colSum
    rw [mul_sum, ← sum_sub_distrib, show (n : ℝ) * (mean H j * mean H j) = ∑ _i : Fin n, mean H j * mean H j by
      rw [sum_const, card_univ, Fintype.card_fin, nsmul_eq_mul], ← sum_add_distrib]
    exact sum_congr rfl fun i _ => by ring
  have hs : colSum H j = n * mean H j := by unfold mean; field_simp
  unfold var var'
  rw [h, hs]
  field_simp
  ring

/-- So the second form is not negative either. -/
theorem var'_nonneg (hn : n ≠ 0) (H : Fin n → Fin p → ℝ) (j : Fin p) : 0 ≤ var' H j := by
  rw [← var_eq_var' hn]; exact var_nonneg H j

/-- A row added to every row of the matrix moves each mean by it, -/
theorem mean_add (hn : n ≠ 0) (H : Fin n → Fin p → ℝ) (c : Fin p → ℝ) (j : Fin p) :
    mean (fun i j => H i j + c j) j = mean H j + c j := by
  have hn' : (n : ℝ) ≠ 0 := by exact_mod_cast hn
  unfold mean colSum
  rw [sum_add_distrib, sum_const, card_univ, Fintype.card_fin, nsmul_eq_mul]
  field_simp

/-- leaves the variances, -/
theorem var_add (hn : n ≠ 0) (H : Fin n → Fin p → ℝ) (c : Fin p → ℝ) (j : Fin p) :
    var (fun i j => H i j + c j) j = var H j := by
  unfold var
  simp only [mean_add hn, add_sub_add_right_eq_sub]

/-- and leaves the normalised matrix: a bias before a batch normalisation changes nothing. -/
theorem bn_add (hn : n ≠ 0) (e : ℝ) (g b : Fin p → ℝ) (H : Fin n → Fin p → ℝ) (c : Fin p → ℝ) :
    bn e g b (fun i j => H i j + c j) = bn e g b H := by
  funext i j
  unfold bn
  rw [mean_add hn, var_add hn, add_sub_add_right_eq_sub]

/-- The normalisation as one multiplication and one addition per element. -/
theorem bn_affine (hn : n ≠ 0) (e : ℝ) (g b : Fin p → ℝ) (H : Fin n → Fin p → ℝ) (i : Fin n) (j : Fin p) :
    H i j * fac e g H j + (b j - mean H j * fac e g H j) = bn e g b H i j := by
  unfold bn fac
  rw [← var_eq_var' hn, div_eq_mul_inv]
  ring

/-- A scale `s` folded into the factor and the shift scales the normalised matrix. -/
theorem bn_affine_scaled (hn : n ≠ 0) (e s : ℝ) (g b : Fin p → ℝ) (H : Fin n → Fin p → ℝ) (i : Fin n) (j : Fin p) :
    H i j * (fac e g H j * s) + (b j * s - mean H j * (fac e g H j * s)) = s * bn e g b H i j := by
  rw [← bn_affine hn]; ring

/-- A scale on the right operand's rows may be moved onto the left operand through two products. -/
theorem prod_scale {q : ℕ} (s : ℝ) (Q : Fin n → Fin k → ℝ) (B : Fin k → Fin p → ℝ) (W : Fin p → Fin q → ℝ) :
    prod Q (prod (fun i j => s * B i j) W) = prod (fun i j => Q i j * s) (prod B W) := by
  funext i j
  unfold prod
  refine sum_congr rfl fun l _ => ?_
  rw [mul_sum, mul_sum]
  exact sum_congr rfl fun r _ => by ring

/-- The argument of the last `tanh` as the two-layer network states it: both layers with their biases, the second one's
    adjacency being the codes `Q` times the scale `s`. -/
def network {d : ℕ} (e s : ℝ) (X : Fin n → Fin d → ℝ) (A Q : Fin n → Fin n → ℝ) (W₁ : Fin d → Fin k → ℝ) (b₁ g₁ t₁ : Fin k → ℝ)
    (W₂ : Fin k → Fin p → ℝ) (b₂ g₂ t₂ : Fin p → ℝ) : Fin n → Fin p → ℝ :=
  bn e g₂ t₂ (fun i j => prod (fun i l => Q i l * s)
    (prod (bn e g₁ t₁ (fun i j => prod A (prod X W₁) i j + b₁ j)) W₂) i j + b₂ j)

/-- The same argument as computed without the biases, with the variance from the sums of squares, the normalisation as one
    multiplication and one addition, and the scale folded into the first layer's. -/
def fused {d : ℕ} (e s : ℝ) (X : Fin n → Fin d → ℝ) (A Q : Fin n → Fin n → ℝ) (W₁ : Fin d → Fin k → ℝ) (g₁ t₁ : Fin k → ℝ)
    (W₂ : Fin k → Fin p → ℝ) (g₂ t₂ : Fin p → ℝ) (i : Fin n) (j : Fin p) : ℝ :=
  let H := prod A (prod X W₁)
  let P := prod Q (prod (fun i j => H i j * (fac e g₁ H j * s) + (t₁ j * s - mean H j * (fac e g₁ H j * s))) W₂)
  P i j * fac e g₂ P j + (t₂ j - mean P j * fac e g₂ P j)

/-- The two are equal. -/
theorem fused_eq {d : ℕ} (hn : n ≠ 0) (e s : ℝ) (X : Fin n → Fin d → ℝ) (A Q : Fin n → Fin n → ℝ) (W₁ : Fin d → Fin k → ℝ)
    (b₁ g₁ t₁ : Fin k → ℝ) (W₂ : Fin k → Fin p → ℝ) (b₂ g₂ t₂ : Fin p → ℝ) (i : Fin n) (j : Fin p) :
    fused e s X A Q W₁ g₁ t₁ W₂ g₂ t₂ i j = network e s X A Q W₁ b₁ g₁ t₁ W₂ b₂ g₂ t₂ i j := by
  unfold fused network
  rw [bn_add hn, bn_add hn, ← prod_scale]
  simp only [bn_affine_scaled hn]
  exact bn_affine hn ..

end Cert.Proof.Layer

end
-- ==== Proof.Reals.lean ====
/-
  The extended reals' operations at real numbers, and the float words of the two programs as real numbers.
-/
module

public import Idealize.ShloMosaic.PureOps.Ideal.Laws

@[expose] public section

noncomputable section

namespace Cert.Proof.Reals

open Idealize.ShloMosaic

/-- A finite sum of reals, taken over the extended reals, is the real sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A product over the extended reals of two real matrices, at one element. -/
theorem dot_coe {n : ℕ} (f g : Fin n → ℝ) : ∑ i, ((f i : ℝ) : EReal) * ((g i : ℝ) : EReal) = ((∑ i, f i * g i : ℝ) : EReal) := by
  rw [← sum_coe]; exact Finset.sum_congr rfl fun i _ => (EReal.coe_mul _ _).symm

/-- The f32 word for ten thousand. -/
theorem ofBits_count : Ideal.ofBits .f32 0x461C4000#32 = ((10000 : ℝ) : EReal) := by
  simp [Ideal.ofBits, Ideal.ieee, -EReal.coe_mul]; norm_num

/-- The f32 word for 255. -/
theorem ofBits_255 : Ideal.ofBits .f32 0x437F0000#32 = ((255 : ℝ) : EReal) := by
  simp [Ideal.ofBits, Ideal.ieee, -EReal.coe_mul]; norm_num

/-- The f32 word for one half. -/
theorem ofBits_half : Ideal.ofBits .f32 0x3F000000#32 = ((1 / 2 : ℝ) : EReal) := by
  simp [Ideal.ofBits, Ideal.ieee, -EReal.coe_mul]; norm_num

/-- The batch normalisation's epsilon: the float nearest 1/100000. -/
def eps : ℝ := 2748779 / 274877906944

theorem eps_pos : 0 < eps := by unfold eps; norm_num

theorem ofBits_eps : Ideal.ofBits .f32 0x3727C5AC#32 = ((eps : ℝ) : EReal) := by
  unfold eps
  simp [Ideal.ofBits, Ideal.ieee, -EReal.coe_mul]; norm_num

/-- The codes' scale: the float nearest 1/255. -/
def scale : ℝ := 8421505 / 2147483648

theorem ofBits_scale : Ideal.ofBits .f32 0x3B808081#32 = ((scale : ℝ) : EReal) := by
  unfold scale
  simp [Ideal.ofBits, Ideal.ieee, -EReal.coe_mul]; norm_num

/-- The square root of a real that is not negative. -/
theorem sqrt_coe' {r : ℝ} (h : 0 ≤ r) : Ideal.sqrt (r : EReal) = ((Real.sqrt r : ℝ) : EReal) := by
  rw [Ideal.sqrt_coe, if_neg (not_lt.2 h)]

/-- The reciprocal square root of a positive real. -/
theorem rsqrt_coe' {r : ℝ} (h : 0 < r) : Ideal.rsqrt (r : EReal) = (((Real.sqrt r)⁻¹ : ℝ) : EReal) := by
  rw [Ideal.rsqrt_coe, if_neg (not_lt.2 h.le), if_neg h.ne']

/-- The quotient of two reals, the second not zero. -/
theorem div_coe' (x : ℝ) {y : ℝ} (h : y ≠ 0) : Ideal.div (x : EReal) (y : EReal) = ((x / y : ℝ) : EReal) := by
  rw [Ideal.div_coe h, ← EReal.coe_mul, mul_one_div]

/-- The 8-bit code of a real: 255 times it, rounded to the nearest integer (a half up), clipped to 0 … 255. -/
def code (a : ℝ) : ℝ := min 255 (max 0 ((⌊a * 255 + 1 / 2⌋ : ℤ) : ℝ))

/-- The code as floored and clipped in floating point. -/
theorem code_floor (a : ℝ) : min ((255 : ℝ) : EReal) (max (0 : EReal) (Ideal.liftRound Int.floor ((a * 255 + 1 / 2 : ℝ) : EReal)))
    = ((code a : ℝ) : EReal) := by
  rw [Ideal.liftRound_coe, ← EReal.coe_zero, ← EReal.coe_strictMono.monotone.map_max, ← EReal.coe_strictMono.monotone.map_min]; rfl

/-- The code as converted to an unsigned byte, truncating and clamping, and back. -/
theorem code_byte (a : ℝ) : (((Ideal.fptoui 8 ((a * 255 + 1 / 2 : ℝ) : EReal)).toNat : ℝ) : EReal) = ((code a : ℝ) : EReal) := by
  congr 1
  unfold Ideal.fptoui code
  rw [Ideal.toIntClamped_coe]
  set r := a * 255 + 1 / 2
  have key : max (0 : ℤ) (min (((2 ^ 8 : ℕ) : ℤ) - 1) (if 0 ≤ r then ⌊r⌋ else ⌈r⌉)) = min 255 (max 0 ⌊r⌋) := by
    split_ifs with h
    · have := Int.floor_nonneg.2 h
      omega
    · have h1 : ⌈r⌉ ≤ 0 := Int.ceil_le.2 (by push_cast; linarith)
      have h2 : ⌊r⌋ ≤ ⌈r⌉ := Int.floor_le_ceil r
      omega
  rw [key]
  have hb : ((BitVec.ofInt 8 (min 255 (max 0 ⌊r⌋))).toNat : ℤ) = min 255 (max 0 ⌊r⌋) := by
    rw [BitVec.toNat_ofInt]
    omega
  have : (((BitVec.ofInt 8 (min 255 (max 0 ⌊r⌋))).toNat : ℤ) : ℝ) = ((min 255 (max 0 ⌊r⌋) : ℤ) : ℝ) := by rw [hb]
  rw [Int.cast_natCast] at this
  rw [this]
  push_cast
  rfl

end Cert.Proof.Reals

end
-- ==== Proof.Payloads.lean ====
/-
  What each step of the two kernel bodies computes at real arguments.
-/
module

public import proofs.«01_k».proof.Proof.Gen.KernelIdeal.Skeleton
public import proofs.«01_k».proof.Proof.Layer
public import proofs.«01_k».proof.Proof.Reals
public import Idealize.ShloMosaic.Lib.Pointwise
public import Idealize.ShloMosaic.Lib.IdealHost

@[expose] public section

set_option maxRecDepth 16384

noncomputable section

namespace Cert.Proof.Payloads

open Cert.KernelIdeal Cert.KernelIdeal.Gen Idealize.ShloMosaic Idealize.ShloMosaic.TcCoe Idealize.SL.Sem
open Cert.Proof.Layer Cert.Proof.Reals

/-! ## The first pass -/

/-- The support: the product of the features and the first weights. -/
theorem support_at {X : FVec Ideal S10000x128 .f32} {W : FVec Ideal S128x128 .f32} {x : Fin 10000 → Fin 128 → ℝ} {w : Fin 128 → Fin 128 → ℝ}
    (hX : ∀ i j, X (ix2 i j) = ((x i j : ℝ) : EReal)) (hW : ∀ i j, W (ix2 i j) = ((w i j : ℝ) : EReal)) (i : Fin 10000) (j : Fin 128) :
    k0_pay1 (F := Ideal) X W (ix2 i j) = ((prod x w i j : ℝ) : EReal) := by
  pointwise [k0_pay1, hX, hW]
  rw [dot_coe]
  rfl

section Block
variable {A : FVec Ideal S400x10000 .f32} {S : FVec Ideal S10000x128 .bf16} {a : Fin 400 → Fin 10000 → ℝ} {s : Fin 10000 → Fin 128 → ℝ}

/-- A block of the adjacency times the support, -/
theorem block_prod_at (hA : ∀ i j, A (ix2 i j) = ((a i j : ℝ) : EReal)) (hS : ∀ i j, S (ix2 i j) = ((s i j : ℝ) : EReal)) (i : Fin 400) (j : Fin 128) :
    k0_pay4 (F := Ideal) A S (ix2 i j) = ((prod a s i j : ℝ) : EReal) := by
  pointwise [k0_pay4, hA, hS]
  rw [dot_coe]
  rfl

/-- which is what the block of the result is stored as, -/
theorem block_store_at (hA : ∀ i j, A (ix2 i j) = ((a i j : ℝ) : EReal)) (hS : ∀ i j, S (ix2 i j) = ((s i j : ℝ) : EReal)) (i : Fin 400) (j : Fin 128) :
    k0_pay5 (F := Ideal) A S (ix2 i j) = ((prod a s i j : ℝ) : EReal) := by
  pointwise [k0_pay5, block_prod_at hA hS]

/-- the block's codes, -/
theorem block_code_at (hA : ∀ i j, A (ix2 i j) = ((a i j : ℝ) : EReal)) (i : Fin 400) (j : Fin 10000) :
    (((k0_pay6 (F := Ideal) A (ix2 i j)).toNat : ℝ) : EReal) = ((code (a i j) : ℝ) : EReal) := by
  pointwise [k0_pay6, hA]
  rw [ofBits_255, ofBits_half, ← EReal.coe_mul, ← EReal.coe_add]
  exact code_byte _

/-- the column sums with the block's added, -/
theorem block_sum_at (hA : ∀ i j, A (ix2 i j) = ((a i j : ℝ) : EReal)) (hS : ∀ i j, S (ix2 i j) = ((s i j : ℝ) : EReal))
    {U : FVec Ideal S1x128 .f32} {u : Fin 128 → ℝ} (hU : ∀ j, U (ix2 0 j) = ((u j : ℝ) : EReal)) (j : Fin 128) :
    k0_pay7 (F := Ideal) A S U (ix2 0 j) = ((u j + colSum (prod a s) j : ℝ) : EReal) := by
  pointwise [k0_pay7, block_prod_at hA hS, hU]
  rw [sum_coe, ← EReal.coe_add]
  rfl

/-- and the sums of squares with the block's added. -/
theorem block_sq_at (hA : ∀ i j, A (ix2 i j) = ((a i j : ℝ) : EReal)) (hS : ∀ i j, S (ix2 i j) = ((s i j : ℝ) : EReal))
    {U : FVec Ideal S1x128 .f32} {u : Fin 128 → ℝ} (hU : ∀ j, U (ix2 0 j) = ((u j : ℝ) : EReal)) (j : Fin 128) :
    k0_pay8 (F := Ideal) A S U (ix2 0 j) = ((u j + colSq (prod a s) j : ℝ) : EReal) := by
  pointwise [k0_pay8, block_prod_at hA hS, hU]
  rw [dot_coe, ← EReal.coe_add]
  rfl

end Block

/-- Both sums start at zero. -/
theorem sum_zero_at (j : Fin 128) : (k0_pay2 (F := Ideal)) (ix2 0 j) = ((0 : ℝ) : EReal) := by
  pointwise [k0_pay2]
  rfl
theorem sq_zero_at (j : Fin 128) : (k0_pay3 (F := Ideal)) (ix2 0 j) = ((0 : ℝ) : EReal) := by
  pointwise [k0_pay3]
  rfl

/-! ## The second pass -/

/-- The normalised first layer times the second weights. -/
theorem hidden_at {H : FVec Ideal S10000x128 .bf16} {P Q : FVec Ideal S1x128 .f32} {W : FVec Ideal S128x128 .f32}
    {h : Fin 10000 → Fin 128 → ℝ} {p q : Fin 128 → ℝ} {w : Fin 128 → Fin 128 → ℝ}
    (hH : ∀ i j, H (ix2 i j) = ((h i j : ℝ) : EReal)) (hP : ∀ j, P (ix2 0 j) = ((p j : ℝ) : EReal)) (hQ : ∀ j, Q (ix2 0 j) = ((q j : ℝ) : EReal))
    (hW : ∀ i j, W (ix2 i j) = ((w i j : ℝ) : EReal)) (i : Fin 10000) (j : Fin 128) :
    k1_pay1 (F := Ideal) H P Q W (ix2 i j) = ((prod (fun i j => h i j * p j + q j) w i j : ℝ) : EReal) := by
  pointwise [k1_pay1, hH, hP, hQ, hW]
  simp only [← EReal.coe_mul, ← EReal.coe_add]
  rw [sum_coe]
  rfl

section Code
variable {C : IVec S1000x10000 8} {S : FVec Ideal S10000x128 .bf16} {a : Fin 1000 → Fin 10000 → ℝ} {s : Fin 10000 → Fin 128 → ℝ}

/-- A block of codes times the hidden matrix, -/
theorem code_prod_at (hC : ∀ i j, (((C (ix2 i j)).toNat : ℝ) : EReal) = ((a i j : ℝ) : EReal)) (hS : ∀ i j, S (ix2 i j) = ((s i j : ℝ) : EReal))
    (i : Fin 1000) (j : Fin 128) : k1_pay4 (F := Ideal) C S (ix2 i j) = ((prod a s i j : ℝ) : EReal) := by
  pointwise [k1_pay4, hS]
  refine (Finset.sum_congr rfl fun l _ => congrArg (· * _) (hC i l)).trans ?_
  exact dot_coe _ _

/-- which is kept, -/
theorem code_store_at (hC : ∀ i j, (((C (ix2 i j)).toNat : ℝ) : EReal) = ((a i j : ℝ) : EReal)) (hS : ∀ i j, S (ix2 i j) = ((s i j : ℝ) : EReal))
    (i : Fin 1000) (j : Fin 128) : k1_pay5 (F := Ideal) C S (ix2 i j) = ((prod a s i j : ℝ) : EReal) := by
  pointwise [k1_pay5, code_prod_at hC hS]

/-- the column sums with the block's added, -/
theorem code_sum_at (hC : ∀ i j, (((C (ix2 i j)).toNat : ℝ) : EReal) = ((a i j : ℝ) : EReal)) (hS : ∀ i j, S (ix2 i j) = ((s i j : ℝ) : EReal))
    {U : FVec Ideal S1x128 .f32} {u : Fin 128 → ℝ} (hU : ∀ j, U (ix2 0 j) = ((u j : ℝ) : EReal)) (j : Fin 128) :
    k1_pay6 (F := Ideal) C S U (ix2 0 j) = ((u j + colSum (prod a s) j : ℝ) : EReal) := by
  pointwise [k1_pay6, code_prod_at hC hS, hU]
  rw [sum_coe, ← EReal.coe_add]
  rfl

/-- and the sums of squares with the block's added. -/
theorem code_sq_at (hC : ∀ i j, (((C (ix2 i j)).toNat : ℝ) : EReal) = ((a i j : ℝ) : EReal)) (hS : ∀ i j, S (ix2 i j) = ((s i j : ℝ) : EReal))
    {U : FVec Ideal S1x128 .f32} {u : Fin 128 → ℝ} (hU : ∀ j, U (ix2 0 j) = ((u j : ℝ) : EReal)) (j : Fin 128) :
    k1_pay7 (F := Ideal) C S U (ix2 0 j) = ((u j + colSq (prod a s) j : ℝ) : EReal) := by
  pointwise [k1_pay7, code_prod_at hC hS, hU]
  rw [dot_coe, ← EReal.coe_add]
  rfl

end Code

theorem code_sum_zero_at (j : Fin 128) : (k1_pay2 (F := Ideal)) (ix2 0 j) = ((0 : ℝ) : EReal) := by
  pointwise [k1_pay2]
  rfl
theorem code_sq_zero_at (j : Fin 128) : (k1_pay3 (F := Ideal)) (ix2 0 j) = ((0 : ℝ) : EReal) := by
  pointwise [k1_pay3]
  rfl

section Norm
variable {P : Fin 10000 → Fin 128 → ℝ} {U Q G B : FVec Ideal S1x128 .f32} {g : Fin 128 → ℝ}

/-- The mean from the column sums, -/
theorem mean_at (hU : ∀ j, U (ix2 0 j) = ((colSum P j : ℝ) : EReal)) (j : Fin 128) : k1_pay8 (F := Ideal) U (ix2 0 j) = ((mean P j : ℝ) : EReal) := by
  pointwise [k1_pay8, hU]
  rw [ofBits_count, div_coe' _ (by norm_num)]
  unfold mean
  norm_num

/-- the factor from both sums, -/
theorem factor_at (hU : ∀ j, U (ix2 0 j) = ((colSum P j : ℝ) : EReal)) (hQ : ∀ j, Q (ix2 0 j) = ((colSq P j : ℝ) : EReal))
    (hG : ∀ j, G (ix2 0 j) = ((g j : ℝ) : EReal)) (j : Fin 128) : k1_pay9 (F := Ideal) U Q G (ix2 0 j) = ((fac eps g P j : ℝ) : EReal) := by
  pointwise [k1_pay9, mean_at hU, hQ, hG]
  have hv : 0 < var' P j + eps := add_pos_of_nonneg_of_pos (var'_nonneg (by norm_num) P j) eps_pos
  have he : Ideal.div ((colSq P j : ℝ) : EReal) (Ideal.ofBits .f32 0x461C4000#32) - ((mean P j : ℝ) : EReal) * ((mean P j : ℝ) : EReal)
      + Ideal.ofBits .f32 0x3727C5AC#32 = ((var' P j + eps : ℝ) : EReal) := by
    rw [ofBits_count, ofBits_eps, div_coe' _ (by norm_num), ← EReal.coe_mul, ← EReal.coe_sub, ← EReal.coe_add]
    unfold var'
    norm_num
  refine (congrArg (fun z => _ * Ideal.rsqrt z) he).trans ?_
  rw [rsqrt_coe' hv, ← EReal.coe_mul]
  rfl

/-- kept as it is, -/
theorem factor_store_at (hU : ∀ j, U (ix2 0 j) = ((colSum P j : ℝ) : EReal)) (hQ : ∀ j, Q (ix2 0 j) = ((colSq P j : ℝ) : EReal))
    (hG : ∀ j, G (ix2 0 j) = ((g j : ℝ) : EReal)) (j : Fin 128) : k1_pay10 (F := Ideal) U Q G (ix2 0 j) = ((fac eps g P j : ℝ) : EReal) := by
  pointwise [k1_pay10, factor_at hU hQ hG]

/-- and the shift, whatever the offset. -/
theorem shift_at (hU : ∀ j, U (ix2 0 j) = ((colSum P j : ℝ) : EReal)) (hQ : ∀ j, Q (ix2 0 j) = ((colSq P j : ℝ) : EReal))
    (hG : ∀ j, G (ix2 0 j) = ((g j : ℝ) : EReal)) (j : Fin 128) :
    k1_pay11 (F := Ideal) U Q G B (ix2 0 j) = (show EReal from B (ix2 0 j)) - ((mean P j * fac eps g P j : ℝ) : EReal) := by
  pointwise [k1_pay11, factor_at hU hQ hG, mean_at hU]
  rw [← EReal.coe_mul]

end Norm

/-- The last step: one multiplication, one addition and the hyperbolic tangent per element. -/
theorem tanh_at {Y : FVec Ideal S1000x128 .f32} {P Q : FVec Ideal S1x128 .f32} {y : Fin 1000 → Fin 128 → ℝ} {p q : Fin 128 → ℝ} {b : Fin 128 → EReal}
    (hY : ∀ i j, Y (ix2 i j) = ((y i j : ℝ) : EReal)) (hP : ∀ j, P (ix2 0 j) = ((p j : ℝ) : EReal))
    (hQ : ∀ j, (show EReal from Q (ix2 0 j)) = b j - ((q j : ℝ) : EReal))
    (i : Fin 1000) (j : Fin 128) : k1_pay12 (F := Ideal) Y P Q (ix2 i j) = Ideal.tanh (((y i j * p j + (0 - q j) : ℝ) : EReal) + b j) := by
  pointwise [k1_pay12, hY, hP, hQ]
  rw [← EReal.coe_mul, sub_eq_add_neg (b j), ← EReal.coe_neg, add_comm (b j), ← add_assoc, ← EReal.coe_add, zero_sub]

end Cert.Proof.Payloads

end
-- ==== Proof.FirstPass.lean ====
/-
  What the first pass leaves in its four arrays when its inputs are real: the first layer's product, the adjacency's codes,
  and the column sums of the product and of its squares.
-/
module

public import proofs.«01_k».proof.Proof.KernelIdeal.Region1st
public import proofs.«01_k».proof.Proof.Payloads
public import Idealize.ShloMosaic.Lib.Pipeline.ValueKit

@[expose] public section

set_option maxRecDepth 16384

noncomputable section

namespace Cert.Proof.FirstPass

open Cert.KernelIdeal Cert.KernelIdeal.Gen Cert.Proof.OfKernelIdeal
open Idealize.ShloMosaic Idealize.ShloMosaic.TcCoe Idealize.SL.Sem
open Idealize.ShloMosaic.Pipeline (Dat)
open Cert.Proof.Layer Cert.Proof.Reals Cert.Proof.Payloads

/-- The row of the whole matrix at which row `r` of block `n` lies. -/
def row (n : ℕ) (r : Fin 400) : Fin 10000 := ⟨n % 25 * 400 + r.val, by have := r.isLt; omega⟩

/-- Where each window's block lies at each grid point. -/
theorem idx : ∀ t : Fin cfg0.N, win0_0.index t = ![0, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] :=
  (by decide +kernel : ∀ t : Fin grid0.N, _)

/-- The two sums are written back after the last point only. -/
theorem flush5 : ∀ t : Fin cfg0.N, (cfg0.win 5).flush t = true → t.val = 24 := by decide +kernel
theorem flush6 : ∀ t : Fin cfg0.N, (cfg0.win 6).flush t = true → t.val = 24 := by decide +kernel

theorem lt_25 (t : Fin cfg0.N) : t.val < 25 := lt_of_lt_of_eq t.isLt (show cfg0.N = 25 from N_0)

/-- The index of an entry of a block in the whole array. -/
theorem emb3 (t : Fin cfg0.N) (y) : (win0_3.blk t).view.emb y = ix2 (row t.val (y 0)) (y 1) := by
  have := lt_25 t
  have hm : t.val % 25 = t.val := Nat.mod_eq_of_lt this
  blk_ext [idx t, row, hm]
theorem emb4 (t : Fin cfg0.N) (y) : (win0_4.blk t).view.emb y = ix2 (row t.val (y 0)) (y 1) := by
  have := lt_25 t
  have hm : t.val % 25 = t.val := Nat.mod_eq_of_lt this
  blk_ext [idx t, row, hm]
theorem emb5 (t : Fin cfg0.N) (y) : (win0_5.blk t).view.emb y = ix2 0 (y 1) := by
  blk_ext [idx t]
theorem emb6 (t : Fin cfg0.N) (y) : (win0_6.blk t).view.emb y = ix2 0 (y 1) := by
  blk_ext [idx t]

variable (V : (c : Dev nD) → Valuation τ sig (Elt Ideal)) (c : Dev nD)

/-- Row `r` of block `n` of the adjacency is its row `row n r`. -/
theorem adj_read (n : ℕ) (r : Fin 400) (l : Fin 10000) :
    adjBlk V c n (ix2 r l) = V c (Pipeline.arrRef spec0 2) (ix2 (row n r) l) := by
  unfold adjBlk
  generalize hp : pt0 n = p
  have hv : p.val = n % 25 := by rw [← hp]; rfl
  blk_ext [iblk0, idx p, hv, row]

theorem feat_read (t : Fin cfg0.N) (i : Fin 10000) (l : Fin 128) :
    iblk0 V c 0 t (ix2 i l) = V c (Pipeline.arrRef spec0 0) (ix2 i l) := by
  blk_ext [iblk0, idx t]

theorem weight_read (t : Fin cfg0.N) (i : Fin 128) (l : Fin 128) :
    iblk0 V c 1 t (ix2 i l) = V c (Pipeline.arrRef spec0 1) (ix2 i l) := by
  blk_ext [iblk0, idx t]

/-- The sums over the blocks' rows, block after block, are the sums over the rows. -/
theorem sum_rows (f : Fin 10000 → ℝ) : ∑ n ∈ Finset.range 25, ∑ r : Fin 400, f (row n r) = ∑ i, f i := by
  rw [Fin.sum_univ_tiles 25 400 rfl f, Finset.sum_range]
  refine Finset.sum_congr rfl fun n _ => Finset.sum_congr rfl fun r _ => congrArg f (Fin.ext ?_)
  have := n.isLt
  show n.val % 25 * 400 + r.val = n.val * 400 + r.val
  omega

section Real
variable {x : Fin 10000 → Fin 128 → ℝ} {a : Fin 10000 → Fin 10000 → ℝ} {w : Fin 128 → Fin 128 → ℝ}
  (hx : ∀ i j, (show EReal from V c (Pipeline.arrRef spec0 0) (ix2 i j)) = ((x i j : ℝ) : EReal))
  (ha : ∀ i j, (show EReal from V c (Pipeline.arrRef spec0 2) (ix2 i j)) = ((a i j : ℝ) : EReal))
  (hw : ∀ i j, (show EReal from V c (Pipeline.arrRef spec0 1) (ix2 i j)) = ((w i j : ℝ) : EReal))
include hx ha hw

theorem supp_at (i : Fin 10000) (j : Fin 128) : supp V c (ix2 i j) = ((prod x w i j : ℝ) : EReal) :=
  support_at (fun i j => (feat_read V c _ i j).trans (hx i j)) (fun i j => (weight_read V c _ i j).trans (hw i j)) i j

omit hx hw in
theorem adj_at (n : ℕ) (r : Fin 400) (l : Fin 10000) : adjBlk V c n (ix2 r l) = ((a (row n r) l : ℝ) : EReal) :=
  (adj_read V c n r l).trans (ha _ l)

/-- The column sums after `n` blocks, -/
theorem sumAcc_at (n : ℕ) (j : Fin 128) : sumAcc0 V c n (ix2 0 j)
    = ((∑ k ∈ Finset.range n, ∑ r : Fin 400, prod a (prod x w) (row k r) j : ℝ) : EReal) := by
  induction n generalizing j with
  | zero => rw [Finset.sum_range_zero]; exact sum_zero_at j
  | succ n ih =>
    rw [Finset.sum_range_succ]
    exact block_sum_at (adj_at V c ha n) (supp_at V c hx ha hw) ih j

/-- and the sums of squares. -/
theorem sqAcc_at (n : ℕ) (j : Fin 128) : sqAcc0 V c n (ix2 0 j)
    = ((∑ k ∈ Finset.range n, ∑ r : Fin 400, prod a (prod x w) (row k r) j * prod a (prod x w) (row k r) j : ℝ) : EReal) := by
  induction n generalizing j with
  | zero => rw [Finset.sum_range_zero]; exact sq_zero_at j
  | succ n ih =>
    rw [Finset.sum_range_succ]
    exact block_sq_at (adj_at V c ha n) (supp_at V c hx ha hw) ih j

/-- The first layer's product, whole. -/
theorem layer_at (i : Fin 10000) (j : Fin 128) :
    (show EReal from (dat0 V c).arrAt 3 cfg0.N (ix2 i j)) = ((prod a (prod x w) i j : ℝ) : EReal) := by
  refine (dat0 V c).arrAt_forall_of_covers 3 (fun i v => (show EReal from v) = ((prod a (prod x w) (i 0) (i 1) : ℝ) : EReal))
    (by decide +kernel) (fun t hf y => ?_) (ix2 i j)
  blk_simp
  rw [dat0_after3]
  have h := block_store_at (adj_at V c ha t.val) (supp_at V c hx ha hw) (y 0) (y 1)
  rw [emb3]
  exact (congrArg _ (eq_ix2 y)).trans h

omit hx hw in
/-- The adjacency's codes, whole. -/
theorem codes_at (i j : Fin 10000) :
    ((((show BitVec 8 from (dat0 V c).arrAt 4 cfg0.N (ix2 i j))).toNat : ℝ) : EReal) = ((code (a i j) : ℝ) : EReal) := by
  refine (dat0 V c).arrAt_forall_of_covers 4 (fun i v => (((show BitVec 8 from v).toNat : ℝ) : EReal) = ((code (a (i 0) (i 1)) : ℝ) : EReal))
    (by decide +kernel) (fun t hf y => ?_) (ix2 i j)
  blk_simp
  rw [dat0_after4]
  have h := block_code_at (adj_at V c ha t.val) (y 0) (y 1)
  rw [emb4]
  exact (congrArg (fun q => (((show BitVec 8 from k0_pay6 (F := Ideal) (adjBlk V c t.val) q).toNat : ℝ) : EReal)) (eq_ix2 y)).trans h

/-- The column sums of the product, -/
theorem sum_at (j : Fin 128) :
    (show EReal from (dat0 V c).arrAt 5 cfg0.N (ix2 0 j)) = ((colSum (prod a (prod x w)) j : ℝ) : EReal) := by
  refine (dat0 V c).arrAt_forall_of_covers 5 (fun i v => (show EReal from v) = ((colSum (prod a (prod x w)) (i 1) : ℝ) : EReal))
    (by decide +kernel) (fun t hf y => ?_) (ix2 0 j)
  blk_simp
  rw [dat0_after5, flush5 t hf]
  have h := sumAcc_at V c hx ha hw 25 (y 1)
  rw [sum_rows (fun i => prod a (prod x w) i (y 1))] at h
  rw [emb5]
  exact (congrArg _ ((eq_ix2 y).trans (congrArg (ix2 · (y 1)) (Subsingleton.elim (α := Fin 1) _ _)))).trans h

/-- and of its squares. -/
theorem sq_at (j : Fin 128) :
    (show EReal from (dat0 V c).arrAt 6 cfg0.N (ix2 0 j)) = ((colSq (prod a (prod x w)) j : ℝ) : EReal) := by
  refine (dat0 V c).arrAt_forall_of_covers 6 (fun i v => (show EReal from v) = ((colSq (prod a (prod x w)) (i 1) : ℝ) : EReal))
    (by decide +kernel) (fun t hf y => ?_) (ix2 0 j)
  blk_simp
  rw [dat0_after6, flush6 t hf]
  have h := sqAcc_at V c hx ha hw 25 (y 1)
  rw [sum_rows (fun i => prod a (prod x w) i (y 1) * prod a (prod x w) i (y 1))] at h
  rw [emb6]
  exact (congrArg _ ((eq_ix2 y).trans (congrArg (ix2 · (y 1)) (Subsingleton.elim (α := Fin 1) _ _)))).trans h

end Real

end Cert.Proof.FirstPass

end
-- ==== Proof.Between.lean ====
/-
  The host operations between the two passes: from the first pass's column sums they compute the factor and the shift of the
  first normalisation, both times the codes' scale.
-/
module

public import proofs.«01_k».proof.Proof.KernelIdeal.Chain
public import proofs.«01_k».proof.Proof.Layer
public import proofs.«01_k».proof.Proof.Reals
public import Idealize.ShloMosaic.Lib.Pointwise

@[expose] public section

set_option maxRecDepth 16384

noncomputable section

namespace Cert.Proof.Between

open Cert.KernelIdeal Cert.KernelIdeal.Gen Cert.Proof.OfKernelIdeal
open Idealize.ShloMosaic Idealize.ShloMosaic.TcCoe Idealize.SL.Sem Idealize.ShloMosaic.Tactic
open Cert.Proof.Layer Cert.Proof.Reals

section Scalar
variable {H : Fin 10000 → Fin 128 → ℝ} (g : Fin 128 → ℝ) (j : Fin 128)

/-- A column's sum divided by the number of rows is its mean. -/
theorem mean_word : Ideal.div ((colSum H j : ℝ) : EReal) (Ideal.ofBits .f32 0x461C4000#32) = ((mean H j : ℝ) : EReal) := by
  rw [ofBits_count, div_coe' _ (by norm_num)]
  unfold mean
  norm_num

/-- The gain times the reciprocal root of the variance, from both sums. -/
theorem fac_word : ((g j : ℝ) : EReal) * Ideal.rsqrt (Ideal.div ((colSq H j : ℝ) : EReal) (Ideal.ofBits .f32 0x461C4000#32)
    - ((mean H j : ℝ) : EReal) * ((mean H j : ℝ) : EReal) + Ideal.ofBits .f32 0x3727C5AC#32) = ((fac eps g H j : ℝ) : EReal) := by
  have hv : 0 < var' H j + eps := add_pos_of_nonneg_of_pos (var'_nonneg (by norm_num) H j) eps_pos
  have he : Ideal.div ((colSq H j : ℝ) : EReal) (Ideal.ofBits .f32 0x461C4000#32) - ((mean H j : ℝ) : EReal) * ((mean H j : ℝ) : EReal)
      + Ideal.ofBits .f32 0x3727C5AC#32 = ((var' H j + eps : ℝ) : EReal) := by
    rw [ofBits_count, ofBits_eps, div_coe' _ (by norm_num), ← EReal.coe_mul, ← EReal.coe_sub, ← EReal.coe_add]
    unfold var'
    norm_num
  rw [he, rsqrt_coe' hv, ← EReal.coe_mul]
  rfl

end Scalar

variable (V : Valuation τ sig (Elt Ideal))

/-- Arrays no operation here writes keep their contents. -/
theorem kept_layer : StableHlo.after hostOps1 V main_v0_0 = V main_v0_0 := by
  simp only [hostOps1]; after_results_simp
theorem kept_codes : StableHlo.after hostOps1 V main_v0_1 = V main_v0_1 := by
  simp only [hostOps1]; after_results_simp
theorem kept_weights : StableHlo.after hostOps1 V main_arg6 = V main_arg6 := by
  simp only [hostOps1]; after_results_simp

section Real
variable {H : Fin 10000 → Fin 128 → ℝ} {g t : Fin 128 → ℝ}
  (hS : ∀ j, (show EReal from V main_v0_2 (ix2 0 j)) = ((colSum H j : ℝ) : EReal))
  (hQ : ∀ j, (show EReal from V main_v0_3 (ix2 0 j)) = ((colSq H j : ℝ) : EReal))
  (hg : ∀ j, (show EReal from V main_arg4 (ix1 j)) = ((g j : ℝ) : EReal))
  (ht : ∀ j, (show EReal from V main_arg5 (ix1 j)) = ((t j : ℝ) : EReal))
include hS hQ hg

/-- The factor. -/
theorem factor_at (j : Fin 128) : (show EReal from StableHlo.after hostOps1 V main_v13 (ix2 0 j)) = ((fac eps g H j * scale : ℝ) : EReal) := by
  simp only [hostOps1]; after_results_simp
  pointwise [hS, hQ, hg]
  rw [mean_word, fac_word, ofBits_scale, ← EReal.coe_mul]

include ht in
/-- The shift. -/
theorem shift_at (j : Fin 128) : (show EReal from StableHlo.after hostOps1 V main_v20 (ix2 0 j))
    = ((t j * scale - mean H j * (fac eps g H j * scale) : ℝ) : EReal) := by
  simp only [hostOps1]; after_results_simp
  pointwise [hS, hQ, hg, ht]
  rw [mean_word, fac_word, ofBits_scale, ← EReal.coe_mul, ← EReal.coe_mul, ← EReal.coe_mul, ← EReal.coe_sub]
end Real

/-- The second normalisation's gain and offset, as rows. -/
theorem gain_at (j : Fin 128) : (show EReal from StableHlo.after hostOps1 V main_v21 (ix2 0 j)) = V main_arg8 (ix1 j) := by
  simp only [hostOps1]; after_results_simp
  pointwise
theorem offset_at (j : Fin 128) : (show EReal from StableHlo.after hostOps1 V main_v22 (ix2 0 j)) = V main_arg9 (ix1 j) := by
  simp only [hostOps1]; after_results_simp
  pointwise

end Cert.Proof.Between

end
-- ==== Proof.SecondPass.lean ====
/-
  What the second pass leaves in its result when its inputs are real: the codes times the normalised first layer times the second
  weights, normalised column by column, under the hyperbolic tangent.
-/
module

public import proofs.«01_k».proof.Proof.KernelIdeal.Region2nd
public import proofs.«01_k».proof.Proof.Payloads
public import Idealize.ShloMosaic.Lib.Pipeline.ValueKit

@[expose] public section

set_option maxRecDepth 16384

noncomputable section

namespace Cert.Proof.SecondPass

open Cert.KernelIdeal Cert.KernelIdeal.Gen Cert.Proof.OfKernelIdeal
open Idealize.ShloMosaic Idealize.ShloMosaic.TcCoe Idealize.SL.Sem
open Idealize.ShloMosaic.Pipeline (Dat)
open Cert.Proof.Layer Cert.Proof.Reals Cert.Proof.Payloads

/-- The row of the whole matrix at which row `r` of block `n` lies. -/
def row (n : ℕ) (r : Fin 1000) : Fin 10000 := ⟨n % 10 * 1000 + r.val, by have := r.isLt; omega⟩

/-- Where each window's block lies at each grid point. -/
theorem idx : ∀ t : Fin cfg1.N, win1_0.index t = ![0, 0] ∧ win1_1.index t = ![0, 0] ∧ win1_2.index t = ![0, 0]
    ∧ win1_3.index t = ![0, 0] ∧ win1_4.index t = ![0, 0] ∧ win1_5.index t = ![0, 0] :=
  (by decide +kernel : ∀ t : Fin grid1.N, _)
/-- In the first half the codes' blocks come one after another, -/
theorem idx6 : ∀ t : Fin cfg1.N, t.val < 10 → win1_6.index t = ![t.val, 0] := (by decide +kernel : ∀ t : Fin grid1.N, _)
/-- in the second half the result's blocks are written one after another. -/
theorem idx7 : ∀ t : Fin cfg1.N, 10 ≤ t.val → win1_7.index t = ![t.val - 10, 0] := (by decide +kernel : ∀ t : Fin grid1.N, _)

theorem lt_20 (t : Fin cfg1.N) : t.val < 20 := lt_of_lt_of_eq t.isLt (show cfg1.N = 20 from N_1)

/-- The index of an entry of a block of the result in the whole array. -/
theorem emb7 (t : Fin cfg1.N) (h : 10 ≤ t.val) (y) : (win1_7.blk t).view.emb y = ix2 (row (t.val - 10) (y 0)) (y 1) := by
  have := lt_20 t
  have hm : (t.val - 10) % 10 = t.val - 10 := Nat.mod_eq_of_lt (by omega)
  blk_ext [idx7 t h, row, hm]

variable (V : (c : Dev nD) → Valuation τ sig (Elt Ideal)) (c : Dev nD)

/-- Row `r` of block `n` of the codes is their row `row n r`. -/
theorem code_read (n : ℕ) (hn : n < 10) (r : Fin 1000) (l : Fin 10000) :
    codeBlk V c n (ix2 r l) = V c (Pipeline.arrRef spec1 6) (ix2 (row n r) l) := by
  unfold codeBlk
  generalize hp : pt1 n = p
  have hv : p.val = n := by rw [← hp]; exact Nat.mod_eq_of_lt (by omega)
  have hm : n % 10 = n := Nat.mod_eq_of_lt hn
  blk_ext [iblk1, idx6 p (by omega), hv, row, hm]

theorem layer_read (t : Fin cfg1.N) (i : Fin 10000) (l : Fin 128) :
    iblk1 V c 0 t (ix2 i l) = V c (Pipeline.arrRef spec1 0) (ix2 i l) := by
  blk_ext [iblk1, idx t]
theorem weight_read (t : Fin cfg1.N) (i : Fin 128) (l : Fin 128) :
    iblk1 V c 1 t (ix2 i l) = V c (Pipeline.arrRef spec1 1) (ix2 i l) := by
  blk_ext [iblk1, idx t]
theorem factor_read (t : Fin cfg1.N) (i : Fin 1) (l : Fin 128) :
    iblk1 V c 2 t (ix2 i l) = V c (Pipeline.arrRef spec1 2) (ix2 i l) := by
  blk_ext [iblk1, idx t]
theorem shift_read (t : Fin cfg1.N) (i : Fin 1) (l : Fin 128) :
    iblk1 V c 3 t (ix2 i l) = V c (Pipeline.arrRef spec1 3) (ix2 i l) := by
  blk_ext [iblk1, idx t]
theorem gain_read (t : Fin cfg1.N) (i : Fin 1) (l : Fin 128) :
    iblk1 V c 4 t (ix2 i l) = V c (Pipeline.arrRef spec1 4) (ix2 i l) := by
  blk_ext [iblk1, idx t]
theorem offset_read (t : Fin cfg1.N) (i : Fin 1) (l : Fin 128) :
    iblk1 V c 5 t (ix2 i l) = V c (Pipeline.arrRef spec1 5) (ix2 i l) := by
  blk_ext [iblk1, idx t]

/-- The sums over the blocks' rows, block after block, are the sums over the rows. -/
theorem sum_rows (f : Fin 10000 → ℝ) : ∑ n ∈ Finset.range 10, ∑ r : Fin 1000, f (row n r) = ∑ i, f i := by
  rw [Fin.sum_univ_tiles 10 1000 rfl f, Finset.sum_range]
  refine Finset.sum_congr rfl fun n _ => Finset.sum_congr rfl fun r _ => congrArg f (Fin.ext ?_)
  have := n.isLt
  show n.val % 10 * 1000 + r.val = n.val * 1000 + r.val
  omega

section Real
variable {h : Fin 10000 → Fin 128 → ℝ} {p q : Fin 128 → ℝ} {w : Fin 128 → Fin 128 → ℝ} {a : Fin 10000 → Fin 10000 → ℝ} {g : Fin 128 → ℝ} {b : Fin 128 → EReal}
  (hh : ∀ i j, (show EReal from V c (Pipeline.arrRef spec1 0) (ix2 i j)) = ((h i j : ℝ) : EReal))
  (hw : ∀ i j, (show EReal from V c (Pipeline.arrRef spec1 1) (ix2 i j)) = ((w i j : ℝ) : EReal))
  (hp : ∀ j, (show EReal from V c (Pipeline.arrRef spec1 2) (ix2 0 j)) = ((p j : ℝ) : EReal))
  (hq : ∀ j, (show EReal from V c (Pipeline.arrRef spec1 3) (ix2 0 j)) = ((q j : ℝ) : EReal))
  (hg : ∀ j, (show EReal from V c (Pipeline.arrRef spec1 4) (ix2 0 j)) = ((g j : ℝ) : EReal))
  (hb : ∀ j, (show EReal from V c (Pipeline.arrRef spec1 5) (ix2 0 j)) = b j)
  (ha : ∀ i j, (((show BitVec 8 from V c (Pipeline.arrRef spec1 6) (ix2 i j)).toNat : ℝ) : EReal) = ((a i j : ℝ) : EReal))

include hh hw hp hq in
/-- The normalised first layer times the second weights. -/
theorem mat_at (i : Fin 10000) (j : Fin 128) : mat1 V c (ix2 i j) = ((prod (fun i j => h i j * p j + q j) w i j : ℝ) : EReal) :=
  hidden_at (fun i j => (layer_read V c _ i j).trans (hh i j)) (fun j => (factor_read V c _ 0 j).trans (hp j))
    (fun j => (shift_read V c _ 0 j).trans (hq j)) (fun i j => (weight_read V c _ i j).trans (hw i j)) i j

include ha in
theorem code_at (n : ℕ) (hn : n < 10) (r : Fin 1000) (l : Fin 10000) :
    (((show BitVec 8 from codeBlk V c n (ix2 r l)).toNat : ℝ) : EReal) = ((a (row n r) l : ℝ) : EReal) :=
  (congrArg (fun z : BitVec 8 => ((z.toNat : ℝ) : EReal)) (code_read V c n hn r l)).trans (ha _ l)

include hh hw hp hq ha

/-- A block of the second layer's product, -/
theorem prod_at (n : ℕ) (hn : n < 10) (r : Fin 1000) (j : Fin 128) :
    prod1 V c n (ix2 r j) = ((prod a (prod (fun i j => h i j * p j + q j) w) (row n r) j : ℝ) : EReal) :=
  code_store_at (code_at V c ha n hn) (mat_at V c hh hw hp hq) r j

/-- the column sums after `n` blocks, -/
theorem sumAcc_at (n : ℕ) (hn : n ≤ 10) (j : Fin 128) : sumAcc1 V c n (ix2 0 j)
    = ((∑ k ∈ Finset.range n, ∑ r : Fin 1000, prod a (prod (fun i j => h i j * p j + q j) w) (row k r) j : ℝ) : EReal) := by
  induction n generalizing j with
  | zero => rw [Finset.sum_range_zero]; exact code_sum_zero_at j
  | succ n ih =>
    rw [Finset.sum_range_succ]
    exact code_sum_at (code_at V c ha n (by omega)) (mat_at V c hh hw hp hq) (ih (by omega)) j

/-- and the sums of squares. -/
theorem sqAcc_at (n : ℕ) (hn : n ≤ 10) (j : Fin 128) : sqAcc1 V c n (ix2 0 j)
    = ((∑ k ∈ Finset.range n, ∑ r : Fin 1000, prod a (prod (fun i j => h i j * p j + q j) w) (row k r) j
        * prod a (prod (fun i j => h i j * p j + q j) w) (row k r) j : ℝ) : EReal) := by
  induction n generalizing j with
  | zero => rw [Finset.sum_range_zero]; exact code_sq_zero_at j
  | succ n ih =>
    rw [Finset.sum_range_succ]
    exact code_sq_at (code_at V c ha n (by omega)) (mat_at V c hh hw hp hq) (ih (by omega)) j

theorem sum_at (j : Fin 128) : sumAcc1 V c 10 (ix2 0 j) = ((colSum (prod a (prod (fun i j => h i j * p j + q j) w)) j : ℝ) : EReal) := by
  rw [sumAcc_at V c hh hw hp hq ha 10 le_rfl j, sum_rows (fun i => prod a (prod (fun i j => h i j * p j + q j) w) i j)]
  rfl

theorem sq_at (j : Fin 128) : sqAcc1 V c 10 (ix2 0 j) = ((colSq (prod a (prod (fun i j => h i j * p j + q j) w)) j : ℝ) : EReal) := by
  rw [sqAcc_at V c hh hw hp hq ha 10 le_rfl j, sum_rows (fun i => prod a (prod (fun i j => h i j * p j + q j) w) i j
    * prod a (prod (fun i j => h i j * p j + q j) w) i j)]
  rfl

include hg
/-- The factor of the second normalisation -/
theorem fac_at (j : Fin 128) : fac1 V c (ix2 0 j) = ((fac eps g (prod a (prod (fun i j => h i j * p j + q j) w)) j : ℝ) : EReal) :=
  factor_store_at (sum_at V c hh hw hp hq ha) (sq_at V c hh hw hp hq ha) (fun j => (gain_read V c _ 0 j).trans (hg j)) j

include hb
/-- and its shift. -/
theorem shift1_at (j : Fin 128) : (show EReal from shift1 V c (ix2 0 j)) = b j - ((mean (prod a (prod (fun i j => h i j * p j + q j) w)) j
    * fac eps g (prod a (prod (fun i j => h i j * p j + q j) w)) j : ℝ) : EReal) :=
  (shift_at (sum_at V c hh hw hp hq ha) (sq_at V c hh hw hp hq ha) (fun j => (gain_read V c _ 0 j).trans (hg j)) j).trans
    (congrArg (fun z : EReal => z - _) ((offset_read V c _ 0 j).trans (hb j)))

/-- The result, whole. -/
theorem result_at (i : Fin 10000) (j : Fin 128) :
    (show EReal from (dat1 V c).arrAt 7 cfg1.N (ix2 i j)) = Ideal.tanh (((prod a (prod (fun i j => h i j * p j + q j) w) i j
      * fac eps g (prod a (prod (fun i j => h i j * p j + q j) w)) j
      + (0 - mean (prod a (prod (fun i j => h i j * p j + q j) w)) j * fac eps g (prod a (prod (fun i j => h i j * p j + q j) w)) j) : ℝ) : EReal)
      + b j) := by
  refine (dat1 V c).arrAt_forall_of_covers 7 (fun i v => (show EReal from v)
      = Ideal.tanh (((prod a (prod (fun i j => h i j * p j + q j) w) (i 0) (i 1)
        * fac eps g (prod a (prod (fun i j => h i j * p j + q j) w)) (i 1)
        + (0 - mean (prod a (prod (fun i j => h i j * p j + q j) w)) (i 1) * fac eps g (prod a (prod (fun i j => h i j * p j + q j) w)) (i 1)) : ℝ) : EReal)
        + b (i 1)))
    (by decide +kernel) (fun t hf y => ?_) (ix2 i j)
  have h10 : 10 ≤ t.val := (flush7 t).mp hf
  have h20 := lt_20 t
  blk_simp
  rw [dat1_after7, emb7 t h10]
  have hr := tanh_at (prod_at V c hh hw hp hq ha (t.val - 10) (by omega)) (fac_at V c hh hw hp hq hg ha)
    (shift1_at V c hh hw hp hq hg hb ha) (y 0) (y 1)
  exact (congrArg _ (eq_ix2 y)).trans hr

end Real

end Cert.Proof.SecondPass

end
-- ==== Proof.Finite.lean ====
/-
  What the precondition says of the arguments: every element of those it tests is a real number.
-/
module

public import proofs.«01_k».proof.Defs
public import Idealize.ShloMosaic.Lib.Pointwise
public import Idealize.ShloMosaic.PureOps.Ideal.Laws

@[expose] public section

noncomputable section

namespace Cert.Proof.Finite

open Idealize.ShloMosaic Idealize.ShloMosaic.TcCoe Cert.Pre_others_finite

/-- An extended real whose absolute value is below the word of infinity is a real. -/
theorem real_of_abs_lt {z : EReal} (h : max z (-z) < Ideal.ofBits .f32 0x7F800000#32) : z = ((z.toReal : ℝ) : EReal) := by
  have hi : Ideal.ofBits .f32 0x7F800000#32 = ⊤ := by
    simp [Ideal.ofBits, Ideal.ieee]
  rw [hi] at h
  refine (EReal.coe_toReal ?_ ?_).symm
  · rintro rfl; simp at h
  · rintro rfl; simp at h

/-- An array that passes the test at every index holds reals. -/
theorem reals {s : Shape} {dims : Fin S_.rank → Fin s.rank} {hb : S_.BroadcastsInDim s dims} {x : FVec Ideal s .f32}
    (h : cmpf .olt (Host.absf x) (broadcastInDim s dims hb (constant (F := Ideal) S_ .f32 0x7F800000#32)) = fun _ => 1#1) (i : s.Idx) :
    x i = (((show EReal from x i).toReal : ℝ) : EReal) := by
  have h := congrFun h i
  apply real_of_abs_lt
  by_contra hn
  have hz : cmpf .olt (Host.absf x) (broadcastInDim s dims hb (constant (F := Ideal) S_ .f32 0x7F800000#32)) i
    = BitVec.ofBool (decide (max (show EReal from x i) (-(show EReal from x i)) < Ideal.ofBits .f32 0x7F800000#32)) := rfl
  rw [hz, decide_eq_false hn] at h
  exact absurd h (by decide)

end Cert.Proof.Finite

end
-- ==== Proof.Reference.lean ====
/-
  The reference's operations at real arguments: each batch normalisation, the quantised adjacency, and the whole network are
  the ones of `Layer`.
-/
module

public import proofs.«01_k».proof.Proof.Gen.ReferenceIdeal.Run
public import proofs.«01_k».proof.Proof.Layer
public import proofs.«01_k».proof.Proof.Reals
public import Idealize.ShloMosaic.Lib.Pointwise
public import Idealize.ShloMosaic.Lib.IdealHost

@[expose] public section

set_option maxRecDepth 16384

noncomputable section

namespace Cert.Proof.Reference

open Cert.ReferenceIdeal Cert.ReferenceIdeal.Gen Idealize.ShloMosaic Idealize.ShloMosaic.TcCoe Idealize.SL.Sem
open Cert.Proof.Layer Cert.Proof.Reals

/-- The reference's row of column means. -/
def meanOp (H : FVec Ideal S10000x128 .f32) : FVec Ideal S128 .f32 :=
  Host.divf (Host.reduceAdd H (constant S_ .f32 0x00000000#32) reducesTo_S10000x128_S128_d0 h_S_)
    (broadcastInDim S128 ![] bcast_S_S128 (constant S_ .f32 0x461C4000#32))

/-- The rows each less the row of column means, as the reference's variance takes them. -/
def centredOp (H : FVec Ideal S10000x128 .f32) : FVec Ideal S10000x128 .f32 :=
  subf H (broadcastInDim S10000x128 ![0, 1] bcast_S1x128_S10000x128_0_1 (Host.divf
    (broadcastInDim S1x128 ![1] bcast_S128_S1x128_1 (Host.reduceAdd H (constant S_ .f32 0x00000000#32) reducesTo_S10000x128_S128_d0 h_S_))
    (broadcastInDim S1x128 ![] bcast_S_S1x128 (constant S_ .f32 0x461C4000#32))))

/-- The number the reference's variance divides by. -/
def countOp : FVec Ideal S_ .f32 := subf (constant S_ .f32 0x461C4000#32) (sitofp .f32 (constantI S_ 32 0#32))

/-- The reference's row of column variances. -/
def varOp (H : FVec Ideal S10000x128 .f32) : FVec Ideal S128 .f32 :=
  select (broadcastInDim S128 ![] bcast_S_S128 (cmpf .ogt countOp (constant S_ .f32 0x00000000#32)))
    (Host.divf (Host.reduceAdd (mulf (centredOp H) (centredOp H)) (constant S_ .f32 0x00000000#32) reducesTo_S10000x128_S128_d0 h_S_)
      (broadcastInDim S128 ![] bcast_S_S128 countOp))
    (broadcastInDim S128 ![] bcast_S_S128 (id (constant S_ .f32 0x7FC00000#32)))

/-- A row laid under every row of the matrix. -/
def rowsOp (v : FVec Ideal S128 .f32) : FVec Ideal S10000x128 .f32 :=
  broadcastInDim S10000x128 ![0, 1] bcast_S1x128_S10000x128_0_1 (broadcastInDim S1x128 ![1] bcast_S128_S1x128_1 v)

/-- The reference's batch normalisation. -/
def bnOp (H : FVec Ideal S10000x128 .f32) (g b : FVec Ideal S128 .f32) : FVec Ideal S10000x128 .f32 :=
  addf (mulf (Host.divf (subf H (rowsOp (meanOp H)))
    (rowsOp (Host.sqrt (addf (varOp H) (broadcastInDim S128 ![] bcast_S_S128 (constant S_ .f32 0x3727C5AC#32)))))) (rowsOp g)) (rowsOp b)

/-- The adjacency's codes times their scale. -/
def codesOp (A : FVec Ideal S10000x10000 .f32) : FVec Ideal S10000x10000 .f32 :=
  mulf (minimumf (broadcastInDim S10000x10000 ![] bcast_S_S10000x10000 (id (constant S_ .f32 0x437F0000#32)))
    (maximumf (broadcastInDim S10000x10000 ![] bcast_S_S10000x10000 (id (constant S_ .f32 0x00000000#32)))
      (Host.floor (addf (mulf A (broadcastInDim S10000x10000 ![] bcast_S_S10000x10000 (constant S_ .f32 0x437F0000#32)))
        (broadcastInDim S10000x10000 ![] bcast_S_S10000x10000 (constant S_ .f32 0x3F000000#32))))))
    (broadcastInDim S10000x10000 ![] bcast_S_S10000x10000 (constant S_ .f32 0x3B808081#32))

/-- A square matrix applied to the product of a tall one and a small one. -/
def linOp (A : FVec Ideal S10000x10000 .f32) (X : FVec Ideal S10000x128 .f32) (W : FVec Ideal S128x128 .f32) : FVec Ideal S10000x128 .f32 :=
  Host.dotGeneral dot_S10000x10000_S10000x128_S10000x128_1_0_0_1_n_n none A
    (Host.dotGeneral dot_S10000x128_S128x128_S10000x128_1_0_0_1_n_n none X W)

/-- The whole reference. -/
def netOp (X : FVec Ideal S10000x128 .f32) (A : FVec Ideal S10000x10000 .f32) (W₁ : FVec Ideal S128x128 .f32) (b₁ g₁ t₁ : FVec Ideal S128 .f32)
    (W₂ : FVec Ideal S128x128 .f32) (b₂ g₂ t₂ : FVec Ideal S128 .f32) : FVec Ideal S10000x128 .f32 :=
  Host.tanh (bnOp (addf (linOp (codesOp A) (bnOp (addf (linOp A X W₁) (rowsOp b₁)) g₁ t₁) W₂) (rowsOp b₂)) g₂ t₂)

variable {H : FVec Ideal S10000x128 .f32} {h : Fin 10000 → Fin 128 → ℝ}

theorem meanOp_at (hH : ∀ i j, H (ix2 i j) = ((h i j : ℝ) : EReal)) (j : Fin 128) : meanOp H (ix1 j) = ((mean h j : ℝ) : EReal) := by
  pointwise [meanOp, hH]
  rw [ofBits_count, sum_coe, div_coe' _ (by norm_num)]
  unfold mean colSum
  norm_num

theorem centredOp_at (hH : ∀ i j, H (ix2 i j) = ((h i j : ℝ) : EReal)) (i : Fin 10000) (j : Fin 128) :
    centredOp H (ix2 i j) = ((h i j - mean h j : ℝ) : EReal) := by
  pointwise [centredOp, hH]
  rw [ofBits_count, sum_coe, div_coe' _ (by norm_num), ← EReal.coe_sub]
  unfold mean colSum
  norm_num

theorem countOp_at (j : S_.Idx) : countOp j = ((10000 : ℝ) : EReal) := by
  pointwise [countOp]
  rw [ofBits_count, show (FloatOps.sitofp FTy.f32 0#32 : Ideal .f32) = ((0 : ℝ) : EReal) from
    congrArg (fun z : ℤ => ((z : ℝ) : EReal)) (by decide : (0#32).toInt = 0) |>.trans (by norm_num), ← EReal.coe_sub, sub_zero]

theorem varOp_at (hH : ∀ i j, H (ix2 i j) = ((h i j : ℝ) : EReal)) (j : Fin 128) : varOp H (ix1 j) = ((var h j : ℝ) : EReal) := by
  pointwise [varOp, centredOp_at hH, countOp_at, id_eq]
  rw [if_pos (by exact_mod_cast (by norm_num : (0 : ℝ) < 10000)), dot_coe, div_coe' _ (by norm_num)]
  unfold var
  norm_num

/-- The batch normalisation of a real matrix with a real gain, whatever the offset: the offset is added last. -/
theorem bnOp_offset_at (hH : ∀ i j, H (ix2 i j) = ((h i j : ℝ) : EReal)) {G B : FVec Ideal S128 .f32} {g : Fin 128 → ℝ}
    (hG : ∀ j, G (ix1 j) = ((g j : ℝ) : EReal)) (i : Fin 10000) (j : Fin 128) :
    bnOp H G B (ix2 i j) = ((bn eps g (fun _ => 0) h i j : ℝ) : EReal) + (show EReal from B (ix1 j)) := by
  pointwise [bnOp, rowsOp, meanOp_at hH, varOp_at hH, hH, hG]
  have hv : 0 < var h j + eps := add_pos_of_nonneg_of_pos (var_nonneg h j) eps_pos
  rw [ofBits_eps, ← EReal.coe_sub, ← EReal.coe_add, sqrt_coe' hv.le, div_coe' _ (Real.sqrt_pos.2 hv).ne', ← EReal.coe_mul]
  unfold bn
  rw [add_zero]

/-- With a real offset too it is the normalisation over the reals. -/
theorem bnOp_at (hH : ∀ i j, H (ix2 i j) = ((h i j : ℝ) : EReal)) {G B : FVec Ideal S128 .f32} {g b : Fin 128 → ℝ}
    (hG : ∀ j, G (ix1 j) = ((g j : ℝ) : EReal)) (hB : ∀ j, B (ix1 j) = ((b j : ℝ) : EReal)) (i : Fin 10000) (j : Fin 128) :
    bnOp H G B (ix2 i j) = ((bn eps g b h i j : ℝ) : EReal) := by
  refine (bnOp_offset_at hH hG i j).trans ((congrArg (_ + ·) (hB j)).trans ?_)
  rw [← EReal.coe_add]
  unfold bn
  rw [add_zero]

theorem codesOp_at {A : FVec Ideal S10000x10000 .f32} {a : Fin 10000 → Fin 10000 → ℝ} (hA : ∀ i j, A (ix2 i j) = ((a i j : ℝ) : EReal))
    (i j : Fin 10000) : codesOp A (ix2 i j) = ((code (a i j) * scale : ℝ) : EReal) := by
  pointwise [codesOp, hA, id_eq]
  rw [ofBits_255, ofBits_half, ofBits_scale, ← EReal.coe_mul, ← EReal.coe_add, code_floor, ← EReal.coe_mul]

theorem linOp_at {A : FVec Ideal S10000x10000 .f32} {a : Fin 10000 → Fin 10000 → ℝ} {W : FVec Ideal S128x128 .f32} {w : Fin 128 → Fin 128 → ℝ}
    (hA : ∀ i j, A (ix2 i j) = ((a i j : ℝ) : EReal)) (hH : ∀ i j, H (ix2 i j) = ((h i j : ℝ) : EReal)) (hW : ∀ i j, W (ix2 i j) = ((w i j : ℝ) : EReal))
    (i : Fin 10000) (j : Fin 128) : linOp A H W (ix2 i j) = ((prod a (prod h w) i j : ℝ) : EReal) := by
  pointwise [linOp, hA, hH, hW]
  simp only [dot_coe]
  rfl

theorem biased_at (hH : ∀ i j, H (ix2 i j) = ((h i j : ℝ) : EReal)) {B : FVec Ideal S128 .f32} {b : Fin 128 → ℝ}
    (hB : ∀ j, B (ix1 j) = ((b j : ℝ) : EReal)) (i : Fin 10000) (j : Fin 128) :
    addf H (rowsOp B) (ix2 i j) = ((h i j + b j : ℝ) : EReal) := by
  pointwise [rowsOp, hH, hB]
  rw [EReal.coe_add]

/-- The whole reference at real arguments, the last offset excepted: the hyperbolic tangent of the network's value before that
    offset, plus the offset. -/
theorem netOp_at {X : FVec Ideal S10000x128 .f32} {A : FVec Ideal S10000x10000 .f32} {W₁ W₂ : FVec Ideal S128x128 .f32}
    {b₁ g₁ t₁ b₂ g₂ t₂ : FVec Ideal S128 .f32} {x : Fin 10000 → Fin 128 → ℝ} {a : Fin 10000 → Fin 10000 → ℝ} {w₁ w₂ : Fin 128 → Fin 128 → ℝ}
    {rb₁ rg₁ rt₁ rb₂ rg₂ : Fin 128 → ℝ}
    (hX : ∀ i j, X (ix2 i j) = ((x i j : ℝ) : EReal)) (hA : ∀ i j, A (ix2 i j) = ((a i j : ℝ) : EReal))
    (hW₁ : ∀ i j, W₁ (ix2 i j) = ((w₁ i j : ℝ) : EReal)) (hb₁ : ∀ j, b₁ (ix1 j) = ((rb₁ j : ℝ) : EReal))
    (hg₁ : ∀ j, g₁ (ix1 j) = ((rg₁ j : ℝ) : EReal)) (ht₁ : ∀ j, t₁ (ix1 j) = ((rt₁ j : ℝ) : EReal))
    (hW₂ : ∀ i j, W₂ (ix2 i j) = ((w₂ i j : ℝ) : EReal)) (hb₂ : ∀ j, b₂ (ix1 j) = ((rb₂ j : ℝ) : EReal))
    (hg₂ : ∀ j, g₂ (ix1 j) = ((rg₂ j : ℝ) : EReal)) (i : Fin 10000) (j : Fin 128) :
    netOp X A W₁ b₁ g₁ t₁ W₂ b₂ g₂ t₂ (ix2 i j)
      = Ideal.tanh (((network eps scale x a (fun i j => code (a i j)) w₁ rb₁ rg₁ rt₁ w₂ rb₂ rg₂ (fun _ => 0) i j : ℝ) : EReal)
          + (show EReal from t₂ (ix1 j))) := by
  have h1 := biased_at (linOp_at hA hX hW₁) hb₁
  have h2 := biased_at (linOp_at (codesOp_at hA) (bnOp_at h1 hg₁ ht₁) hW₂) hb₂
  pointwise [netOp, bnOp_offset_at h2 hg₂]
  rfl

/-- The reference's value is the operations above. -/
theorem res_eq (m : (ℓ : Loc nD τ sig) → Buf (Elt Ideal) ℓ) (c : Dev nD) :
    Cert.ReferenceIdeal.Value.res_main_v56 m c = netOp (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := rfl

end Cert.Proof.Reference

end
-- ==== Proof.Equation.lean ====
/-
  The kernel's result and the reference's are the same array when every argument but the last offset is real: both are, at each
  index, the hyperbolic tangent of one network's value plus that offset.
-/
module

public import proofs.«01_k».proof.Proof.FirstPass
public import proofs.«01_k».proof.Proof.Between
public import proofs.«01_k».proof.Proof.SecondPass
public import proofs.«01_k».proof.Proof.Finite
public import proofs.«01_k».proof.Proof.Reference
public import proofs.«01_k».proof.Proof.Gen.Pre_others_finite

@[expose] public section

set_option maxRecDepth 16384

noncomputable section

namespace Cert.Proof.Equation

open Cert.KernelIdeal Cert.KernelIdeal.Gen Cert.Proof.OfKernelIdeal
open Idealize.ShloMosaic Idealize.ShloMosaic.TcCoe Idealize.SL.Sem
open Cert.Proof.Layer Cert.Proof.Reals

variable (m : (ℓ : Loc nD τ sig) → Buf (Elt Ideal) ℓ) (c : Dev nD)

/-- Argument `r` on device `c`, at launch. -/
abbrev arg (r : Ref sig .tc) : Buf (Elt Ideal) ((c.tc : Thread nD τ).loc r) := m ((c.tc : Thread nD τ).loc r)

section Kernel
variable {x : Fin 10000 → Fin 128 → ℝ} {a : Fin 10000 → Fin 10000 → ℝ} {w₁ w₂ : Fin 128 → Fin 128 → ℝ} {g₁ t₁ g₂ : Fin 128 → ℝ}
  (hx : ∀ i j, (show EReal from arg m c main_arg0 (ix2 i j)) = ((x i j : ℝ) : EReal))
  (ha : ∀ i j, (show EReal from arg m c main_arg1 (ix2 i j)) = ((a i j : ℝ) : EReal))
  (hw₁ : ∀ i j, (show EReal from arg m c main_arg2 (ix2 i j)) = ((w₁ i j : ℝ) : EReal))
  (hg₁ : ∀ j, (show EReal from arg m c main_arg4 (ix1 j)) = ((g₁ j : ℝ) : EReal))
  (ht₁ : ∀ j, (show EReal from arg m c main_arg5 (ix1 j)) = ((t₁ j : ℝ) : EReal))
  (hw₂ : ∀ i j, (show EReal from arg m c main_arg6 (ix2 i j)) = ((w₂ i j : ℝ) : EReal))
  (hg₂ : ∀ j, (show EReal from arg m c main_arg8 (ix1 j)) = ((g₂ j : ℝ) : EReal))
include hx ha hw₁

theorem left_sum (j : Fin 128) : (show EReal from left0 m c main_v0_2 (ix2 0 j)) = ((colSum (prod a (prod x w₁)) j : ℝ) : EReal) :=
  (congrFun (left0_2 m c) _).trans (FirstPass.sum_at (V0 m) c hx ha hw₁ j)

theorem left_sq (j : Fin 128) : (show EReal from left0 m c main_v0_3 (ix2 0 j)) = ((colSq (prod a (prod x w₁)) j : ℝ) : EReal) :=
  (congrFun (left0_3 m c) _).trans (FirstPass.sq_at (V0 m) c hx ha hw₁ j)

include hg₁ ht₁ hw₂ hg₂

/-- The kernel's result at an index. -/
theorem kernel_at (i : Fin 10000) (j : Fin 128) : (show EReal from (dat1 (mid m) c).arrAt 7 cfg1.N (ix2 i j))
    = Ideal.tanh (((fused eps scale x a (fun i j => code (a i j)) w₁ g₁ t₁ w₂ g₂ (fun _ => 0) i j : ℝ) : EReal)
        + (show EReal from arg m c main_arg9 (ix1 j))) :=
  have hS := left_sum m c hx ha hw₁
  have hQ := left_sq m c hx ha hw₁
  have hG : ∀ j, (show EReal from left0 m c main_arg4 (ix1 j)) = ((g₁ j : ℝ) : EReal) :=
    fun j => (congrFun (left0_ne m c (r := main_arg4) (by decide)) _).trans (hg₁ j)
  have hT : ∀ j, (show EReal from left0 m c main_arg5 (ix1 j)) = ((t₁ j : ℝ) : EReal) :=
    fun j => (congrFun (left0_ne m c (r := main_arg5) (by decide)) _).trans (ht₁ j)
  SecondPass.result_at (mid m) c (h := prod a (prod x w₁)) (p := fun j => fac eps g₁ (prod a (prod x w₁)) j * scale)
    (q := fun j => t₁ j * scale - mean (prod a (prod x w₁)) j * (fac eps g₁ (prod a (prod x w₁)) j * scale)) (w := w₂)
    (a := fun i j => code (a i j)) (g := g₂) (b := fun j => arg m c main_arg9 (ix1 j))
    (fun i j => (congrFun (Between.kept_layer (left0 m c)) _).trans
      ((congrFun (left0_0 m c) _).trans (FirstPass.layer_at (V0 m) c hx ha hw₁ i j)))
    (fun i j => (congrFun (Between.kept_weights (left0 m c)) _).trans
      ((congrFun (left0_ne m c (r := main_arg6) (by decide)) _).trans (hw₂ i j)))
    (fun j => Between.factor_at (left0 m c) hS hQ hG j)
    (fun j => Between.shift_at (left0 m c) hS hQ hG hT j)
    (fun j => (Between.gain_at (left0 m c) j).trans ((congrFun (left0_ne m c (r := main_arg8) (by decide)) _).trans (hg₂ j)))
    (fun j => (Between.offset_at (left0 m c) j).trans (congrFun (left0_ne m c (r := main_arg9) (by decide)) _))
    (fun i j => (congrArg (fun z : BitVec 8 => ((z.toNat : ℝ) : EReal))
      ((congrFun (Between.kept_codes (left0 m c)) _).trans (congrFun (left0_1 m c) _))).trans (FirstPass.codes_at (V0 m) c ha i j))
    i j

end Kernel

/-- Under the precondition the kernel leaves what the reference computes from the same arguments. -/
theorem result_eq (hm : Cert.Pre_KernelIdeal_others_finite m) : (dat1 (mid m) c).arrAt 7 cfg1.N
    = Reference.netOp (arg m c main_arg0) (arg m c main_arg1) (arg m c main_arg2) (arg m c main_arg3) (arg m c main_arg4)
        (arg m c main_arg5) (arg m c main_arg6) (arg m c main_arg7) (arg m c main_arg8) (arg m c main_arg9) := by
  obtain ⟨h0, h1, h2, h3, h4, h5, h6, h7, h8⟩ := hm c
  have r0 := fun i j => Finite.reals h0 (ix2 i j)
  have r1 := fun i j => Finite.reals h1 (ix2 i j)
  have r2 := fun i j => Finite.reals h2 (ix2 i j)
  have r3 := fun j => Finite.reals h3 (ix1 j)
  have r4 := fun j => Finite.reals h4 (ix1 j)
  have r5 := fun j => Finite.reals h5 (ix1 j)
  have r6 := fun i j => Finite.reals h6 (ix2 i j)
  have r7 := fun j => Finite.reals h7 (ix1 j)
  have r8 := fun j => Finite.reals h8 (ix1 j)
  funext y
  rw [eq_ix2 y]
  refine (kernel_at m c r0 r1 r2 r4 r5 r6 r8 (y 0) (y 1)).trans ?_
  refine Eq.trans ?_ (Reference.netOp_at r0 r1 r2 r3 r4 r5 r6 r7 r8 (y 0) (y 1)).symm
  exact congrArg (fun z : ℝ => Ideal.tanh ((z : EReal) + _)) (fused_eq (by norm_num) ..)

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Frames
public import proofs.«01_k».proof.Proof.Equation
public import proofs.«01_k».proof.Proof.Gen.Pre_others_finite
public import Idealize.ShloMosaic.Adequacy
public import Idealize.ShloMosaic.Init

@[expose] public section

noncomputable section

namespace Cert.Proof

open Idealize.ShloMosaic Idealize.ShloMosaic.TcCoe Idealize.SL.Sem

/-- From memories that agree on the arguments, all but the last one finite, kernel and reference end with the same result. -/
theorem same_result : Cert.algebraic_KernelIdeal_ReferenceIdeal_pre_others_finite := by
  intro m g m' g' hm hargs
  refine ⟨fun c => (OfKernelIdeal.dat1 (OfKernelIdeal.mid m) c).arrAt 7 Cert.KernelIdeal.cfg1.N, ?_, ?_⟩
  · exact (θ_run Cert.KernelIdeal.defs _ _).mono (fun _ h => h.1) (OfKernelIdeal.run (F := Ideal) m g)
  · refine (θ_run Cert.ReferenceIdeal.defs _ _).mono (fun r h c => ⟨(h c).1.trans ?_, (h c).2⟩)
      (Cert.ReferenceIdeal.Value.run (F := Ideal) m' g')
    obtain ⟨e0, e1, e2, e3, e4, e5, e6, e7, e8, e9⟩ := hargs c
    rw [Reference.res_eq, e0, e1, e2, e3, e4, e5, e6, e7, e8, e9]
    exact (Equation.result_eq m c hm).symm

/-- Every claim of the certificate. -/
theorem claim : Cert.Claim :=
  ⟨Cert.Kernel.Gen.facts, Cert.KernelIdeal.Gen.facts, Cert.ReferenceIdeal.Gen.facts, Cert.Pre_others_finite.Gen.facts,
    frame_kernel, frame_ideal, fun m ρ _ => frame_ideal m ρ trivial, frame_reference, fun m ρ _ => frame_reference m ρ trivial,
    trivial, same_result⟩

end Cert.Proof

end
